-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "invd0" .f32 0xBF505555#32 ((-625 / 768 : ℝ) : EReal)
  ∧ IdealRules.named_const.Statement Cert.KernelIdeal.κ "invd1" .f32 0x40823555#32 ((3125 / 768 : ℝ) : EReal)
  ∧ IdealRules.named_const.Statement Cert.KernelIdeal.κ "invd2" .f32 0xC1023555#32 ((-3125 / 384 : ℝ) : EReal)
  ∧ IdealRules.named_const.Statement Cert.KernelIdeal.κ "invd3" .f32 0x41023555#32 ((3125 / 384 : ℝ) : EReal)
  ∧ IdealRules.named_const.Statement Cert.KernelIdeal.κ "invd4" .f32 0xC0823555#32 ((-3125 / 768 : ℝ) : EReal)
  ∧ IdealRules.named_const.Statement Cert.KernelIdeal.κ "invd5" .f32 0x3F505555#32 ((625 / 768 : ℝ) : EReal)
  ∧ IdealRules.named_const.Statement Cert.KernelIdeal.κ "node1" .f32 0xBF19999A#32 ((-3 / 5 : ℝ) : EReal)
  ∧ IdealRules.named_const.Statement Cert.KernelIdeal.κ "node2" .f32 0xBE4CCCCD#32 ((-1 / 5 : ℝ) : EReal)
  ∧ IdealRules.named_const.Statement Cert.KernelIdeal.κ "node3" .f32 0x3E4CCCCD#32 ((1 / 5 : ℝ) : EReal)
  ∧ IdealRules.named_const.Statement Cert.KernelIdeal.κ "node4" .f32 0x3F19999A#32 ((3 / 5 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v669) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S64x64x48 : Shape := ⟨3, ![64, 64, 48]⟩
abbrev S64 : Shape := ⟨1, ![64]⟩
abbrev S64x64x8x6 : Shape := ⟨4, ![64, 64, 8, 6]⟩
abbrev S64x64x6x8 : Shape := ⟨4, ![64, 64, 6, 8]⟩
abbrev S_ : Shape := ⟨0, ![]⟩
abbrev S64x64x8x8 : Shape := ⟨4, ![64, 64, 8, 8]⟩
abbrev S32x2x64x64 : Shape := ⟨4, ![32, 2, 64, 64]⟩
abbrev S32x64x2x64 : Shape := ⟨4, ![32, 64, 2, 64]⟩
abbrev S32x64x128 : Shape := ⟨3, ![32, 64, 128]⟩
abbrev S1x64 : Shape := ⟨2, ![1, 64]⟩
abbrev S256x64 : Shape := ⟨2, ![256, 64]⟩
abbrev S64x256 : Shape := ⟨2, ![64, 256]⟩
abbrev S1x8x1 : Shape := ⟨3, ![1, 8, 1]⟩
abbrev S64x1x256 : Shape := ⟨3, ![64, 1, 256]⟩
abbrev S64x8x256 : Shape := ⟨3, ![64, 8, 256]⟩
abbrev S64x8x1x256 : Shape := ⟨4, ![64, 8, 1, 256]⟩
abbrev S64x8x8x256 : Shape := ⟨4, ![64, 8, 8, 256]⟩
abbrev S64x64x256 : Shape := ⟨3, ![64, 64, 256]⟩
abbrev S1x64x64 : Shape := ⟨3, ![1, 64, 64]⟩
abbrev S64x64 : Shape := ⟨2, ![64, 64]⟩
abbrev S1x64x256 : Shape := ⟨3, ![1, 64, 256]⟩

abbrev nBuf : Space → Nat
  | .hbm => 15
  | .vmem => 7
  | .smem => 0
  | _ => 0

abbrev bufTy : (tb : Table) → Fin (tcTables nBuf tb) → BufTy
  | .hbm, ⟨0, _⟩ => ⟨S1024x64, .f32⟩
  | .hbm, ⟨1, _⟩ => ⟨S64x64x48, .f32⟩
  | .hbm, ⟨2, _⟩ => ⟨S64, .f32⟩
  | .hbm, ⟨3, _⟩ => ⟨S64, .f32⟩
  | .hbm, ⟨4, _⟩ => ⟨S64x64x8x6, .f32⟩
  | .hbm, ⟨5, _⟩ => ⟨S64x64x6x8, .f32⟩
  | .hbm, ⟨6, _⟩ => ⟨S_, .i32⟩
  | .hbm, ⟨7, _⟩ => ⟨S_, .f32⟩
  | .hbm, ⟨8, _⟩ => ⟨S64x64x8x8, .f32⟩
  | .hbm, ⟨9, _⟩ => ⟨S32x2x64x64, .f32⟩
  | .hbm, ⟨10, _⟩ => ⟨S32x64x2x64, .f32⟩
  | .hbm, ⟨11, _⟩ => ⟨S32x64x128, .f32⟩
  | .hbm, ⟨12, _⟩ => ⟨S1x64, .f32⟩
  | .hbm, ⟨13, _⟩ => ⟨S1x64, .f32⟩
  | .hbm, ⟨14, _⟩ => ⟨S1024x64, .f32⟩
  | .local _ .vmem, ⟨0, _⟩ => ⟨S256x64, .f32⟩
  | .local _ .vmem, ⟨1, _⟩ => ⟨S256x64, .f32⟩
  | .local _ .vmem, ⟨2, _⟩ => ⟨S32x64x128, .f32⟩
  | .local _ .vmem, ⟨3, _⟩ => ⟨S1x64, .f32⟩
  | .local _ .vmem, ⟨4, _⟩ => ⟨S1x64, .f32⟩
  | .local _ .vmem, ⟨5, _⟩ => ⟨S256x64, .f32⟩
  | .local _ .vmem, ⟨6, _⟩ => ⟨S256x64, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "invd0" => some ((-625 / 768 : ℝ) : EReal)
  | "invd1" => some ((3125 / 768 : ℝ) : EReal)
  | "invd2" => some ((-3125 / 384 : ℝ) : EReal)
  | "invd3" => some ((3125 / 384 : ℝ) : EReal)
  | "invd4" => some ((-3125 / 768 : ℝ) : EReal)
  | "invd5" => some ((625 / 768 : ℝ) : EReal)
  | "node1" => some ((-3 / 5 : ℝ) : EReal)
  | "node2" => some ((-1 / 5 : ℝ) : EReal)
  | "node3" => some ((1 / 5 : ℝ) : EReal)
  | "node4" => some ((3 / 5 : ℝ) : EReal)
  | _ => none
-- ==== ReferenceIdeal.lean ====
abbrev S1024x64 : Shape := ⟨2, ![1024, 64]⟩
abbrev S64x64x48 : Shape := ⟨3, ![64, 64, 48]⟩
abbrev S64 : Shape := ⟨1, ![64]⟩
abbrev S_ : Shape := ⟨0, ![]⟩
abbrev S65536 : Shape := ⟨1, ![65536]⟩
abbrev S65536x1 : Shape := ⟨2, ![65536, 1]⟩
abbrev S6 : Shape := ⟨1, ![6]⟩
abbrev S1x6 : Shape := ⟨2, ![1, 6]⟩
abbrev S65536x6 : Shape := ⟨2, ![65536, 6]⟩
abbrev S393216 : Shape := ⟨1, ![393216]⟩
abbrev S393216x1 : Shape := ⟨2, ![393216, 1]⟩
abbrev S393216x2 : Shape := ⟨2, ![393216, 2]⟩
abbrev S64x393216 : Shape := ⟨2, ![64, 393216]⟩
abbrev S64x1024x64x6 : Shape := ⟨4, ![64, 1024, 64, 6]⟩
abbrev S1024x64x64x6 : Shape := ⟨4, ![1024, 64, 64, 6]⟩
abbrev S5 : Shape := ⟨1, ![5]⟩
abbrev S1 : Shape := ⟨1, ![1]⟩
abbrev S1024x64x64 : Shape := ⟨3, ![1024, 64, 64]⟩
abbrev S1024x64x1 : Shape := ⟨3, ![1024, 64, 1]⟩
abbrev S1024x64x64x1 : Shape := ⟨4, ![1024, 64, 64, 1]⟩
abbrev S1024x1x64 : Shape := ⟨3, ![1024, 1, 64]⟩
abbrev S1x64 : Shape := ⟨2, ![1, 64]⟩

abbrev nBuf : Space → Nat
  | .hbm => 768
  | .vmem => 0
  | .smem => 0
  | _ => 0

abbrev hbmTy0_0 (i : Nat) : BufTy := match i % 128 with
  | 0 => ⟨S1024x64, .f32⟩
  | 1 => ⟨S64x64x48, .f32⟩
  | 2 => ⟨S64, .f32⟩
  | 3 => ⟨S64, .f32⟩
  | 4 => ⟨S_, .f32⟩
  | 5 => ⟨S1024x64, .f32⟩
  | 6 => ⟨S1024x64, .f32⟩
  | 7 => ⟨S_, .f32⟩
  | 8 => ⟨S1024x64, .f32⟩
  | 9 => ⟨S1024x64, .f32⟩
  | 10 => ⟨S_, .f32⟩
  | 11 => ⟨S1024x64, .f32⟩
  | 12 => ⟨S1024x64, .f32⟩
  | 13 => ⟨S1024x64, .i32⟩
  | 14 => ⟨S_, .i32⟩
  | 15 => ⟨S1024x64, .i32⟩
  | 16 => ⟨S1024x64, .i1⟩
  | 17 => ⟨S_, .i32⟩
  | 18 => ⟨S_, .i32⟩
  | 19 => ⟨S1024x64, .i32⟩
  | 20 => ⟨S1024x64, .i32⟩
  | 21 => ⟨S_, .i32⟩
  | 22 => ⟨S1024x64, .i32⟩
  | 23 => ⟨S1024x64, .i1⟩
  | 24 => ⟨S_, .i32⟩
  | 25 => ⟨S_, .i32⟩
  | 26 => ⟨S1024x64, .i32⟩
  | 27 => ⟨S1024x64, .i32⟩
  | 28 => ⟨S_, .i32⟩
  | 29 => ⟨S1024x64, .i32⟩
  | 30 => ⟨S1024x64, .i32⟩
  | 31 => ⟨S_, .i32⟩
  | 32 => ⟨S1024x64, .i32⟩
  | 33 => ⟨S1024x64, .i32⟩
  | 34 => ⟨S65536, .i32⟩
  | 35 => ⟨S1024x64, .f32⟩
  | 36 => ⟨S_, .f32⟩
  | 37 => ⟨S1024x64, .f32⟩
  | 38 => ⟨S1024x64, .f32⟩
  | 39 => ⟨S_, .f32⟩
  | 40 => ⟨S1024x64, .f32⟩
  | 41 => ⟨S1024x64, .f32⟩
  | 42 => ⟨S_, .f32⟩
  | 43 => ⟨S1024x64, .f32⟩
  | 44 => ⟨S1024x64, .f32⟩
  | 45 => ⟨S1024x64, .f32⟩
  | 46 => ⟨S_, .f32⟩
  | 47 => ⟨S1024x64, .f32⟩
  | 48 => ⟨S1024x64, .f32⟩
  | 49 => ⟨S_, .f32⟩
  | 50 => ⟨S1024x64, .f32⟩
  | 51 => ⟨S1024x64, .f32⟩
  | 52 => ⟨S_, .f32⟩
  | 53 => ⟨S1024x64, .f32⟩
  | 54 => ⟨S1024x64, .f32⟩
  | 55 => ⟨S1024x64, .f32⟩
  | 56 => ⟨S1024x64, .f32⟩
  | 57 => ⟨S1024x64, .f32⟩
  | 58 => ⟨S_, .f32⟩
  | 59 => ⟨S1024x64, .f32⟩
  | 60 => ⟨S1024x64, .f32⟩
  | 61 => ⟨S_, .f32⟩
  | 62 => ⟨S1024x64, .f32⟩
  | 63 => ⟨S1024x64, .f32⟩
  | 64 => ⟨S65536x1, .i32⟩
  | 65 => ⟨S6, .i32⟩
  | 66 => ⟨S1x6, .i32⟩
  | 67 => ⟨S65536x6, .i32⟩
  | 68 => ⟨S65536x6, .i32⟩
  | 69 => ⟨S65536x6, .i32⟩
  | 70 => ⟨S393216, .i32⟩
  | 71 => ⟨S_, .i32⟩
  | 72 => ⟨S_, .i32⟩
  | 73 => ⟨S393216, .i32⟩
  | 74 => ⟨S393216, .i32⟩
  | 75 => ⟨S393216, .i32⟩
  | 76 => ⟨S_, .i32⟩
  | 77 => ⟨S393216, .i32⟩
  | 78 => ⟨S393216, .i1⟩
  | 79 => ⟨S393216, .i32⟩
  | 80 => ⟨S393216, .i32⟩
  | 81 => ⟨S_, .i32⟩
  | 82 => ⟨S393216, .i32⟩
  | 83 => ⟨S393216, .i1⟩
  | 84 => ⟨S393216, .i1⟩
  | 85 => ⟨S_, .i32⟩
  | 86 => ⟨S393216, .i32⟩
  | 87 => ⟨S393216, .i32⟩
  | 88 => ⟨S393216, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S393216, .i32⟩
  | 96 => ⟨S393216, .i32⟩
  | 97 => ⟨S_, .i32⟩
  | 98 => ⟨S393216, .i32⟩
  | 99 => ⟨S393216, .i1⟩
  | 100 => ⟨S_, .i32⟩
  | 101 => ⟨S393216, .i32⟩
  | 102 => ⟨S393216, .i1⟩
  | 103 => ⟨S_, .i32⟩
  | 104 => ⟨S_, .i1⟩
  | 105 => ⟨S393216, .i1⟩
  | 106 => ⟨S393216, .i1⟩
  | 107 => ⟨S393216, .i1⟩
  | 108 => ⟨S393216, .i32⟩
  | 109 => ⟨S393216, .i32⟩
  | 110 => ⟨S393216, .i32⟩
  | 111 => ⟨S393216, .i32⟩
  | 112 => ⟨S_, .i32⟩
  | 113 => ⟨S393216, .i32⟩
  | 114 => ⟨S393216, .i1⟩
  | 115 => ⟨S_, .i32⟩
  | 116 => ⟨S393216, .i32⟩
  | 117 => ⟨S393216, .i32⟩
  | 118 => ⟨S393216, .i32⟩
  | 119 => ⟨S_, .i32⟩
  | 120 => ⟨S393216, .i32⟩
  | 121 => ⟨S393216, .i1⟩
  | 122 => ⟨S_, .i32⟩
  | 123 => ⟨S393216, .i32⟩
  | 124 => ⟨S393216, .i32⟩
  | 125 => ⟨S393216, .i32⟩
  | 126 => ⟨S393216x1, .i32⟩
  | 127 => ⟨S393216x1, .i32⟩
  | _ => ⟨S1024x64, .f32⟩

abbrev hbmTy0_1 (i : Nat) : BufTy := match i % 128 with
  | 0 => ⟨S393216x2, .i32⟩
  | 1 => ⟨S64x393216, .f32⟩
  | 2 => ⟨S64x1024x64x6, .f32⟩
  | 3 => ⟨S1024x64x64x6, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S5, .f32⟩
  | 12 => ⟨S_, .f32⟩
  | 13 => ⟨S5, .f32⟩
  | 14 => ⟨S5, .f32⟩
  | 15 => ⟨S1, .f32⟩
  | 16 => ⟨S_, .f32⟩
  | 17 => ⟨S5, .f32⟩
  | 18 => ⟨S5, .f32⟩
  | 19 => ⟨S5, .f32⟩
  | 20 => ⟨S5, .f32⟩
  | 21 => ⟨S1, .f32⟩
  | 22 => ⟨S5, .f32⟩
  | 23 => ⟨S5, .f32⟩
  | 24 => ⟨S5, .f32⟩
  | 25 => ⟨S1, .f32⟩
  | 26 => ⟨S6, .f32⟩
  | 27 => ⟨S_, .f32⟩
  | 28 => ⟨S1024x64x64, .f32⟩
  | 29 => ⟨S_, .f32⟩
  | 30 => ⟨S1024x64, .f32⟩
  | 31 => ⟨S1, .f32⟩
  | 32 => ⟨S_, .f32⟩
  | 33 => ⟨S1024x64, .f32⟩
  | 34 => ⟨S1024x64, .f32⟩
  | 35 => ⟨S1024x64, .f32⟩
  | 36 => ⟨S1, .f32⟩
  | 37 => ⟨S_, .f32⟩
  | 38 => ⟨S1, .f32⟩
  | 39 => ⟨S_, .f32⟩
  | 40 => ⟨S_, .f32⟩
  | 41 => ⟨S1024x64, .f32⟩
  | 42 => ⟨S1024x64, .f32⟩
  | 43 => ⟨S1, .f32⟩
  | 44 => ⟨S_, .f32⟩
  | 45 => ⟨S1024x64, .f32⟩
  | 46 => ⟨S1024x64, .f32⟩
  | 47 => ⟨S1024x64, .f32⟩
  | 48 => ⟨S1, .f32⟩
  | 49 => ⟨S_, .f32⟩
  | 50 => ⟨S1, .f32⟩
  | 51 => ⟨S_, .f32⟩
  | 52 => ⟨S_, .f32⟩
  | 53 => ⟨S1024x64, .f32⟩
  | 54 => ⟨S1024x64, .f32⟩
  | 55 => ⟨S1, .f32⟩
  | 56 => ⟨S_, .f32⟩
  | 57 => ⟨S1024x64, .f32⟩
  | 58 => ⟨S1024x64, .f32⟩
  | 59 => ⟨S1024x64, .f32⟩
  | 60 => ⟨S1, .f32⟩
  | 61 => ⟨S_, .f32⟩
  | 62 => ⟨S1, .f32⟩
  | 63 => ⟨S_, .f32⟩
  | 64 => ⟨S_, .f32⟩
  | 65 => ⟨S1024x64, .f32⟩
  | 66 => ⟨S1024x64, .f32⟩
  | 67 => ⟨S1, .f32⟩
  | 68 => ⟨S_, .f32⟩
  | 69 => ⟨S1024x64, .f32⟩
  | 70 => ⟨S1024x64, .f32⟩
  | 71 => ⟨S1024x64, .f32⟩
  | 72 => ⟨S1, .f32⟩
  | 73 => ⟨S_, .f32⟩
  | 74 => ⟨S1, .f32⟩
  | 75 => ⟨S_, .f32⟩
  | 76 => ⟨S_, .f32⟩
  | 77 => ⟨S1024x64, .f32⟩
  | 78 => ⟨S1024x64, .f32⟩
  | 79 => ⟨S1, .f32⟩
  | 80 => ⟨S_, .f32⟩
  | 81 => ⟨S1024x64, .f32⟩
  | 82 => ⟨S1024x64, .f32⟩
  | 83 => ⟨S1024x64, .f32⟩
  | 84 => ⟨S1, .f32⟩
  | 85 => ⟨S_, .f32⟩
  | 86 => ⟨S1, .f32⟩
  | 87 => ⟨S_, .f32⟩
  | 88 => ⟨S_, .f32⟩
  | 89 => ⟨S1024x64, .f32⟩
  | 90 => ⟨S1024x64, .f32⟩
  | 91 => ⟨S1024x64x1, .f32⟩
  | 92 => ⟨S1024x64x64x1, .f32⟩
  | 93 => ⟨S1024x64x64, .f32⟩
  | 94 => ⟨S1024x64x64, .f32⟩
  | 95 => ⟨S1024x64x64, .f32⟩
  | 96 => ⟨S1024x64x64, .f32⟩
  | 97 => ⟨S_, .f32⟩
  | 98 => ⟨S1024x64, .f32⟩
  | 99 => ⟨S1, .f32⟩
  | 100 => ⟨S_, .f32⟩
  | 101 => ⟨S1024x64, .f32⟩
  | 102 => ⟨S1024x64, .f32⟩
  | 103 => ⟨S1024x64, .f32⟩
  | 104 => ⟨S1, .f32⟩
  | 105 => ⟨S_, .f32⟩
  | 106 => ⟨S1, .f32⟩
  | 107 => ⟨S_, .f32⟩
  | 108 => ⟨S_, .f32⟩
  | 109 => ⟨S1024x64, .f32⟩
  | 110 => ⟨S1024x64, .f32⟩
  | 111 => ⟨S1, .f32⟩
  | 112 => ⟨S_, .f32⟩
  | 113 => ⟨S1024x64, .f32⟩
  | 114 => ⟨S1024x64, .f32⟩
  | 115 => ⟨S1024x64, .f32⟩
  | 116 => ⟨S1, .f32⟩
  | 117 => ⟨S_, .f32⟩
  | 118 => ⟨S1, .f32⟩
  | 119 => ⟨S_, .f32⟩
  | 120 => ⟨S_, .f32⟩
  | 121 => ⟨S1024x64, .f32⟩
  | 122 => ⟨S1024x64, .f32⟩
  | 123 => ⟨S1, .f32⟩
  | 124 => ⟨S_, .f32⟩
  | 125 => ⟨S1024x64, .f32⟩
  | 126 => ⟨S1024x64, .f32⟩
  | 127 => ⟨S1024x64, .f32⟩
  | _ => ⟨S1024x64, .f32⟩

abbrev hbmTy0_2 (i : Nat) : BufTy := match i % 128 with
  | 0 => ⟨S1, .f32⟩
  | 1 => ⟨S_, .f32⟩
  | 2 => ⟨S1, .f32⟩
  | 3 => ⟨S_, .f32⟩
  | 4 => ⟨S_, .f32⟩
  | 5 => ⟨S1024x64, .f32⟩
  | 6 => ⟨S1024x64, .f32⟩
  | 7 => ⟨S1, .f32⟩
  | 8 => ⟨S_, .f32⟩
  | 9 => ⟨S1024x64, .f32⟩
  | 10 => ⟨S1024x64, .f32⟩
  | 11 => ⟨S1024x64, .f32⟩
  | 12 => ⟨S1, .f32⟩
  | 13 => ⟨S_, .f32⟩
  | 14 => ⟨S1, .f32⟩
  | 15 => ⟨S_, .f32⟩
  | 16 => ⟨S_, .f32⟩
  | 17 => ⟨S1024x64, .f32⟩
  | 18 => ⟨S1024x64, .f32⟩
  | 19 => ⟨S1, .f32⟩
  | 20 => ⟨S_, .f32⟩
  | 21 => ⟨S1024x64, .f32⟩
  | 22 => ⟨S1024x64, .f32⟩
  | 23 => ⟨S1024x64, .f32⟩
  | 24 => ⟨S1, .f32⟩
  | 25 => ⟨S_, .f32⟩
  | 26 => ⟨S1, .f32⟩
  | 27 => ⟨S_, .f32⟩
  | 28 => ⟨S_, .f32⟩
  | 29 => ⟨S1024x64, .f32⟩
  | 30 => ⟨S1024x64, .f32⟩
  | 31 => ⟨S1024x64x1, .f32⟩
  | 32 => ⟨S1024x64x64x1, .f32⟩
  | 33 => ⟨S1024x64x64, .f32⟩
  | 34 => ⟨S1024x64x64, .f32⟩
  | 35 => ⟨S1024x64x64, .f32⟩
  | 36 => ⟨S1024x64x64, .f32⟩
  | 37 => ⟨S_, .f32⟩
  | 38 => ⟨S1024x64, .f32⟩
  | 39 => ⟨S1, .f32⟩
  | 40 => ⟨S_, .f32⟩
  | 41 => ⟨S1024x64, .f32⟩
  | 42 => ⟨S1024x64, .f32⟩
  | 43 => ⟨S1024x64, .f32⟩
  | 44 => ⟨S1, .f32⟩
  | 45 => ⟨S_, .f32⟩
  | 46 => ⟨S1, .f32⟩
  | 47 => ⟨S_, .f32⟩
  | 48 => ⟨S_, .f32⟩
  | 49 => ⟨S1024x64, .f32⟩
  | 50 => ⟨S1024x64, .f32⟩
  | 51 => ⟨S1, .f32⟩
  | 52 => ⟨S_, .f32⟩
  | 53 => ⟨S1024x64, .f32⟩
  | 54 => ⟨S1024x64, .f32⟩
  | 55 => ⟨S1024x64, .f32⟩
  | 56 => ⟨S1, .f32⟩
  | 57 => ⟨S_, .f32⟩
  | 58 => ⟨S1, .f32⟩
  | 59 => ⟨S_, .f32⟩
  | 60 => ⟨S_, .f32⟩
  | 61 => ⟨S1024x64, .f32⟩
  | 62 => ⟨S1024x64, .f32⟩
  | 63 => ⟨S1, .f32⟩
  | 64 => ⟨S_, .f32⟩
  | 65 => ⟨S1024x64, .f32⟩
  | 66 => ⟨S1024x64, .f32⟩
  | 67 => ⟨S1024x64, .f32⟩
  | 68 => ⟨S1, .f32⟩
  | 69 => ⟨S_, .f32⟩
  | 70 => ⟨S1, .f32⟩
  | 71 => ⟨S_, .f32⟩
  | 72 => ⟨S_, .f32⟩
  | 73 => ⟨S1024x64, .f32⟩
  | 74 => ⟨S1024x64, .f32⟩
  | 75 => ⟨S1, .f32⟩
  | 76 => ⟨S_, .f32⟩
  | 77 => ⟨S1024x64, .f32⟩
  | 78 => ⟨S1024x64, .f32⟩
  | 79 => ⟨S1024x64, .f32⟩
  | 80 => ⟨S1, .f32⟩
  | 81 => ⟨S_, .f32⟩
  | 82 => ⟨S1, .f32⟩
  | 83 => ⟨S_, .f32⟩
  | 84 => ⟨S_, .f32⟩
  | 85 => ⟨S1024x64, .f32⟩
  | 86 => ⟨S1024x64, .f32⟩
  | 87 => ⟨S1, .f32⟩
  | 88 => ⟨S_, .f32⟩
  | 89 => ⟨S1024x64, .f32⟩
  | 90 => ⟨S1024x64, .f32⟩
  | 91 => ⟨S1024x64, .f32⟩
  | 92 => ⟨S1, .f32⟩
  | 93 => ⟨S_, .f32⟩
  | 94 => ⟨S1, .f32⟩
  | 95 => ⟨S_, .f32⟩
  | 96 => ⟨S_, .f32⟩
  | 97 => ⟨S1024x64, .f32⟩
  | 98 => ⟨S1024x64, .f32⟩
  | 99 => ⟨S1024x64x1, .f32⟩
  | 100 => ⟨S1024x64x64x1, .f32⟩
  | 101 => ⟨S1024x64x64, .f32⟩
  | 102 => ⟨S1024x64x64, .f32⟩
  | 103 => ⟨S1024x64x64, .f32⟩
  | 104 => ⟨S1024x64x64, .f32⟩
  | 105 => ⟨S_, .f32⟩
  | 106 => ⟨S1024x64, .f32⟩
  | 107 => ⟨S1, .f32⟩
  | 108 => ⟨S_, .f32⟩
  | 109 => ⟨S1024x64, .f32⟩
  | 110 => ⟨S1024x64, .f32⟩
  | 111 => ⟨S1024x64, .f32⟩
  | 112 => ⟨S1, .f32⟩
  | 113 => ⟨S_, .f32⟩
  | 114 => ⟨S1, .f32⟩
  | 115 => ⟨S_, .f32⟩
  | 116 => ⟨S_, .f32⟩
  | 117 => ⟨S1024x64, .f32⟩
  | 118 => ⟨S1024x64, .f32⟩
  | 119 => ⟨S1, .f32⟩
  | 120 => ⟨S_, .f32⟩
  | 121 => ⟨S1024x64, .f32⟩
  | 122 => ⟨S1024x64, .f32⟩
  | 123 => ⟨S1024x64, .f32⟩
  | 124 => ⟨S1, .f32⟩
  | 125 => ⟨S_, .f32⟩
  | 126 => ⟨S1, .f32⟩
  | 127 => ⟨S_, .f32⟩
  | _ => ⟨S1024x64, .f32⟩

abbrev hbmTy0_3 (i : Nat) : BufTy := match i % 128 with
  | 0 => ⟨S_, .f32⟩
  | 1 => ⟨S1024x64, .f32⟩
  | 2 => ⟨S1024x64, .f32⟩
  | 3 => ⟨S1, .f32⟩
  | 4 => ⟨S_, .f32⟩
  | 5 => ⟨S1024x64, .f32⟩
  | 6 => ⟨S1024x64, .f32⟩
  | 7 => ⟨S1024x64, .f32⟩
  | 8 => ⟨S1, .f32⟩
  | 9 => ⟨S_, .f32⟩
  | 10 => ⟨S1, .f32⟩
  | 11 => ⟨S_, .f32⟩
  | 12 => ⟨S_, .f32⟩
  | 13 => ⟨S1024x64, .f32⟩
  | 14 => ⟨S1024x64, .f32⟩
  | 15 => ⟨S1, .f32⟩
  | 16 => ⟨S_, .f32⟩
  | 17 => ⟨S1024x64, .f32⟩
  | 18 => ⟨S1024x64, .f32⟩
  | 19 => ⟨S1024x64, .f32⟩
  | 20 => ⟨S1, .f32⟩
  | 21 => ⟨S_, .f32⟩
  | 22 => ⟨S1, .f32⟩
  | 23 => ⟨S_, .f32⟩
  | 24 => ⟨S_, .f32⟩
  | 25 => ⟨S1024x64, .f32⟩
  | 26 => ⟨S1024x64, .f32⟩
  | 27 => ⟨S1, .f32⟩
  | 28 => ⟨S_, .f32⟩
  | 29 => ⟨S1024x64, .f32⟩
  | 30 => ⟨S1024x64, .f32⟩
  | 31 => ⟨S1024x64, .f32⟩
  | 32 => ⟨S1, .f32⟩
  | 33 => ⟨S_, .f32⟩
  | 34 => ⟨S1, .f32⟩
  | 35 => ⟨S_, .f32⟩
  | 36 => ⟨S_, .f32⟩
  | 37 => ⟨S1024x64, .f32⟩
  | 38 => ⟨S1024x64, .f32⟩
  | 39 => ⟨S1024x64x1, .f32⟩
  | 40 => ⟨S1024x64x64x1, .f32⟩
  | 41 => ⟨S1024x64x64, .f32⟩
  | 42 => ⟨S1024x64x64, .f32⟩
  | 43 => ⟨S1024x64x64, .f32⟩
  | 44 => ⟨S1024x64x64, .f32⟩
  | 45 => ⟨S_, .f32⟩
  | 46 => ⟨S1024x64, .f32⟩
  | 47 => ⟨S1, .f32⟩
  | 48 => ⟨S_, .f32⟩
  | 49 => ⟨S1024x64, .f32⟩
  | 50 => ⟨S1024x64, .f32⟩
  | 51 => ⟨S1024x64, .f32⟩
  | 52 => ⟨S1, .f32⟩
  | 53 => ⟨S_, .f32⟩
  | 54 => ⟨S1, .f32⟩
  | 55 => ⟨S_, .f32⟩
  | 56 => ⟨S_, .f32⟩
  | 57 => ⟨S1024x64, .f32⟩
  | 58 => ⟨S1024x64, .f32⟩
  | 59 => ⟨S1, .f32⟩
  | 60 => ⟨S_, .f32⟩
  | 61 => ⟨S1024x64, .f32⟩
  | 62 => ⟨S1024x64, .f32⟩
  | 63 => ⟨S1024x64, .f32⟩
  | 64 => ⟨S1, .f32⟩
  | 65 => ⟨S_, .f32⟩
  | 66 => ⟨S1, .f32⟩
  | 67 => ⟨S_, .f32⟩
  | 68 => ⟨S_, .f32⟩
  | 69 => ⟨S1024x64, .f32⟩
  | 70 => ⟨S1024x64, .f32⟩
  | 71 => ⟨S1, .f32⟩
  | 72 => ⟨S_, .f32⟩
  | 73 => ⟨S1024x64, .f32⟩
  | 74 => ⟨S1024x64, .f32⟩
  | 75 => ⟨S1024x64, .f32⟩
  | 76 => ⟨S1, .f32⟩
  | 77 => ⟨S_, .f32⟩
  | 78 => ⟨S1, .f32⟩
  | 79 => ⟨S_, .f32⟩
  | 80 => ⟨S_, .f32⟩
  | 81 => ⟨S1024x64, .f32⟩
  | 82 => ⟨S1024x64, .f32⟩
  | 83 => ⟨S1, .f32⟩
  | 84 => ⟨S_, .f32⟩
  | 85 => ⟨S1024x64, .f32⟩
  | 86 => ⟨S1024x64, .f32⟩
  | 87 => ⟨S1024x64, .f32⟩
  | 88 => ⟨S1, .f32⟩
  | 89 => ⟨S_, .f32⟩
  | 90 => ⟨S1, .f32⟩
  | 91 => ⟨S_, .f32⟩
  | 92 => ⟨S_, .f32⟩
  | 93 => ⟨S1024x64, .f32⟩
  | 94 => ⟨S1024x64, .f32⟩
  | 95 => ⟨S1, .f32⟩
  | 96 => ⟨S_, .f32⟩
  | 97 => ⟨S1024x64, .f32⟩
  | 98 => ⟨S1024x64, .f32⟩
  | 99 => ⟨S1024x64, .f32⟩
  | 100 => ⟨S1, .f32⟩
  | 101 => ⟨S_, .f32⟩
  | 102 => ⟨S1, .f32⟩
  | 103 => ⟨S_, .f32⟩
  | 104 => ⟨S_, .f32⟩
  | 105 => ⟨S1024x64, .f32⟩
  | 106 => ⟨S1024x64, .f32⟩
  | 107 => ⟨S1024x64x1, .f32⟩
  | 108 => ⟨S1024x64x64x1, .f32⟩
  | 109 => ⟨S1024x64x64, .f32⟩
  | 110 => ⟨S1024x64x64, .f32⟩
  | 111 => ⟨S1024x64x64, .f32⟩
  | 112 => ⟨S1024x64x64, .f32⟩
  | 113 => ⟨S_, .f32⟩
  | 114 => ⟨S1024x64, .f32⟩
  | 115 => ⟨S1, .f32⟩
  | 116 => ⟨S_, .f32⟩
  | 117 => ⟨S1024x64, .f32⟩
  | 118 => ⟨S1024x64, .f32⟩
  | 119 => ⟨S1024x64, .f32⟩
  | 120 => ⟨S1, .f32⟩
  | 121 => ⟨S_, .f32⟩
  | 122 => ⟨S1, .f32⟩
  | 123 => ⟨S_, .f32⟩
  | 124 => ⟨S_, .f32⟩
  | 125 => ⟨S1024x64, .f32⟩
  | 126 => ⟨S1024x64, .f32⟩
  | 127 => ⟨S1, .f32⟩
  | _ => ⟨S1024x64, .f32⟩

abbrev hbmTy0_4 (i : Nat) : BufTy := match i % 128 with
  | 0 => ⟨S_, .f32⟩
  | 1 => ⟨S1024x64, .f32⟩
  | 2 => ⟨S1024x64, .f32⟩
  | 3 => ⟨S1024x64, .f32⟩
  | 4 => ⟨S1, .f32⟩
  | 5 => ⟨S_, .f32⟩
  | 6 => ⟨S1, .f32⟩
  | 7 => ⟨S_, .f32⟩
  | 8 => ⟨S_, .f32⟩
  | 9 => ⟨S1024x64, .f32⟩
  | 10 => ⟨S1024x64, .f32⟩
  | 11 => ⟨S1, .f32⟩
  | 12 => ⟨S_, .f32⟩
  | 13 => ⟨S1024x64, .f32⟩
  | 14 => ⟨S1024x64, .f32⟩
  | 15 => ⟨S1024x64, .f32⟩
  | 16 => ⟨S1, .f32⟩
  | 17 => ⟨S_, .f32⟩
  | 18 => ⟨S1, .f32⟩
  | 19 => ⟨S_, .f32⟩
  | 20 => ⟨S_, .f32⟩
  | 21 => ⟨S1024x64, .f32⟩
  | 22 => ⟨S1024x64, .f32⟩
  | 23 => ⟨S1, .f32⟩
  | 24 => ⟨S_, .f32⟩
  | 25 => ⟨S1024x64, .f32⟩
  | 26 => ⟨S1024x64, .f32⟩
  | 27 => ⟨S1024x64, .f32⟩
  | 28 => ⟨S1, .f32⟩
  | 29 => ⟨S_, .f32⟩
  | 30 => ⟨S1, .f32⟩
  | 31 => ⟨S_, .f32⟩
  | 32 => ⟨S_, .f32⟩
  | 33 => ⟨S1024x64, .f32⟩
  | 34 => ⟨S1024x64, .f32⟩
  | 35 => ⟨S1, .f32⟩
  | 36 => ⟨S_, .f32⟩
  | 37 => ⟨S1024x64, .f32⟩
  | 38 => ⟨S1024x64, .f32⟩
  | 39 => ⟨S1024x64, .f32⟩
  | 40 => ⟨S1, .f32⟩
  | 41 => ⟨S_, .f32⟩
  | 42 => ⟨S1, .f32⟩
  | 43 => ⟨S_, .f32⟩
  | 44 => ⟨S_, .f32⟩
  | 45 => ⟨S1024x64, .f32⟩
  | 46 => ⟨S1024x64, .f32⟩
  | 47 => ⟨S1024x64x1, .f32⟩
  | 48 => ⟨S1024x64x64x1, .f32⟩
  | 49 => ⟨S1024x64x64, .f32⟩
  | 50 => ⟨S1024x64x64, .f32⟩
  | 51 => ⟨S1024x64x64, .f32⟩
  | 52 => ⟨S1024x64x64, .f32⟩
  | 53 => ⟨S_, .f32⟩
  | 54 => ⟨S1024x64, .f32⟩
  | 55 => ⟨S_, .f32⟩
  | 56 => ⟨S1024x64, .f32⟩
  | 57 => ⟨S1024x1x64, .f32⟩
  | 58 => ⟨S1024x64, .f32⟩
  | 59 => ⟨S1024x64, .f32⟩
  | 60 => ⟨S1024x1x64, .f32⟩
  | 61 => ⟨S1024x64, .f32⟩
  | 62 => ⟨S1024x64, .f32⟩
  | 63 => ⟨S1024x1x64, .f32⟩
  | 64 => ⟨S1024x64, .f32⟩
  | 65 => ⟨S1024x64, .f32⟩
  | 66 => ⟨S1024x1x64, .f32⟩
  | 67 => ⟨S1024x64, .f32⟩
  | 68 => ⟨S1024x64, .f32⟩
  | 69 => ⟨S1024x1x64, .f32⟩
  | 70 => ⟨S1024x64, .f32⟩
  | 71 => ⟨S1024x64, .f32⟩
  | 72 => ⟨S1024x1x64, .f32⟩
  | 73 => ⟨S1024x64, .f32⟩
  | 74 => ⟨S1024x64, .f32⟩
  | 75 => ⟨S1024x1x64, .f32⟩
  | 76 => ⟨S1024x64, .f32⟩
  | 77 => ⟨S1024x64, .f32⟩
  | 78 => ⟨S1024x1x64, .f32⟩
  | 79 => ⟨S1024x64, .f32⟩
  | 80 => ⟨S1024x64, .f32⟩
  | 81 => ⟨S1024x1x64, .f32⟩
  | 82 => ⟨S1024x64, .f32⟩
  | 83 => ⟨S1024x64, .f32⟩
  | 84 => ⟨S1024x1x64, .f32⟩
  | 85 => ⟨S1024x64, .f32⟩
  | 86 => ⟨S1024x64, .f32⟩
  | 87 => ⟨S1024x1x64, .f32⟩
  | 88 => ⟨S1024x64, .f32⟩
  | 89 => ⟨S1024x64, .f32⟩
  | 90 => ⟨S1024x1x64, .f32⟩
  | 91 => ⟨S1024x64, .f32⟩
  | 92 => ⟨S1024x64, .f32⟩
  | 93 => ⟨S1024x1x64, .f32⟩
  | 94 => ⟨S1024x64, .f32⟩
  | 95 => ⟨S1024x64, .f32⟩
  | 96 => ⟨S1024x1x64, .f32⟩
  | 97 => ⟨S1024x64, .f32⟩
  | 98 => ⟨S1024x64, .f32⟩
  | 99 => ⟨S1024x1x64, .f32⟩
  | 100 => ⟨S1024x64, .f32⟩
  | 101 => ⟨S1024x64, .f32⟩
  | 102 => ⟨S1024x1x64, .f32⟩
  | 103 => ⟨S1024x64, .f32⟩
  | 104 => ⟨S1024x64, .f32⟩
  | 105 => ⟨S1024x1x64, .f32⟩
  | 106 => ⟨S1024x64, .f32⟩
  | 107 => ⟨S1024x64, .f32⟩
  | 108 => ⟨S1024x1x64, .f32⟩
  | 109 => ⟨S1024x64, .f32⟩
  | 110 => ⟨S1024x64, .f32⟩
  | 111 => ⟨S1024x1x64, .f32⟩
  | 112 => ⟨S1024x64, .f32⟩
  | 113 => ⟨S1024x64, .f32⟩
  | 114 => ⟨S1024x1x64, .f32⟩
  | 115 => ⟨S1024x64, .f32⟩
  | 116 => ⟨S1024x64, .f32⟩
  | 117 => ⟨S1024x1x64, .f32⟩
  | 118 => ⟨S1024x64, .f32⟩
  | 119 => ⟨S1024x64, .f32⟩
  | 120 => ⟨S1024x1x64, .f32⟩
  | 121 => ⟨S1024x64, .f32⟩
  | 122 => ⟨S1024x64, .f32⟩
  | 123 => ⟨S1024x1x64, .f32⟩
  | 124 => ⟨S1024x64, .f32⟩
  | 125 => ⟨S1024x64, .f32⟩
  | 126 => ⟨S1024x1x64, .f32⟩
  | 127 => ⟨S1024x64, .f32⟩
  | _ => ⟨S1024x64, .f32⟩

abbrev hbmTy0_5 (i : Nat) : BufTy := match i % 128 with
  | 0 => ⟨S1024x64, .f32⟩
  | 1 => ⟨S1024x1x64, .f32⟩
  | 2 => ⟨S1024x64, .f32⟩
  | 3 => ⟨S1024x64, .f32⟩
  | 4 => ⟨S1024x1x64, .f32⟩
  | 5 => ⟨S1024x64, .f32⟩
  | 6 => ⟨S1024x64, .f32⟩
  | 7 => ⟨S1024x1x64, .f32⟩
  | 8 => ⟨S1024x64, .f32⟩
  | 9 => ⟨S1024x64, .f32⟩
  | 10 => ⟨S1024x1x64, .f32⟩
  | 11 => ⟨S1024x64, .f32⟩
  | 12 => ⟨S1024x64, .f32⟩
  | 13 => ⟨S1024x1x64, .f32⟩
  | 14 => ⟨S1024x64, .f32⟩
  | 15 => ⟨S1024x64, .f32⟩
  | 16 => ⟨S1024x1x64, .f32⟩
  | 17 => ⟨S1024x64, .f32⟩
  | 18 => ⟨S1024x64, .f32⟩
  | 19 => ⟨S1024x1x64, .f32⟩
  | 20 => ⟨S1024x64, .f32⟩
  | 21 => ⟨S1024x64, .f32⟩
  | 22 => ⟨S1024x1x64, .f32⟩
  | 23 => ⟨S1024x64, .f32⟩
  | 24 => ⟨S1024x64, .f32⟩
  | 25 => ⟨S1024x1x64, .f32⟩
  | 26 => ⟨S1024x64, .f32⟩
  | 27 => ⟨S1024x64, .f32⟩
  | 28 => ⟨S1024x1x64, .f32⟩
  | 29 => ⟨S1024x64, .f32⟩
  | 30 => ⟨S1024x64, .f32⟩
  | 31 => ⟨S1024x1x64, .f32⟩
  | 32 => ⟨S1024x64, .f32⟩
  | 33 => ⟨S1024x64, .f32⟩
  | 34 => ⟨S1024x1x64, .f32⟩
  | 35 => ⟨S1024x64, .f32⟩
  | 36 => ⟨S1024x64, .f32⟩
  | 37 => ⟨S1024x1x64, .f32⟩
  | 38 => ⟨S1024x64, .f32⟩
  | 39 => ⟨S1024x64, .f32⟩
  | 40 => ⟨S1024x1x64, .f32⟩
  | 41 => ⟨S1024x64, .f32⟩
  | 42 => ⟨S1024x64, .f32⟩
  | 43 => ⟨S1024x1x64, .f32⟩
  | 44 => ⟨S1024x64, .f32⟩
  | 45 => ⟨S1024x64, .f32⟩
  | 46 => ⟨S1024x1x64, .f32⟩
  | 47 => ⟨S1024x64, .f32⟩
  | 48 => ⟨S1024x64, .f32⟩
  | 49 => ⟨S1024x1x64, .f32⟩
  | 50 => ⟨S1024x64, .f32⟩
  | 51 => ⟨S1024x64, .f32⟩
  | 52 => ⟨S1024x1x64, .f32⟩
  | 53 => ⟨S1024x64, .f32⟩
  | 54 => ⟨S1024x64, .f32⟩
  | 55 => ⟨S1024x1x64, .f32⟩
  | 56 => ⟨S1024x64, .f32⟩
  | 57 => ⟨S1024x64, .f32⟩
  | 58 => ⟨S1024x1x64, .f32⟩
  | 59 => ⟨S1024x64, .f32⟩
  | 60 => ⟨S1024x64, .f32⟩
  | 61 => ⟨S1024x1x64, .f32⟩
  | 62 => ⟨S1024x64, .f32⟩
  | 63 => ⟨S1024x64, .f32⟩
  | 64 => ⟨S1024x1x64, .f32⟩
  | 65 => ⟨S1024x64, .f32⟩
  | 66 => ⟨S1024x64, .f32⟩
  | 67 => ⟨S1024x1x64, .f32⟩
  | 68 => ⟨S1024x64, .f32⟩
  | 69 => ⟨S1024x64, .f32⟩
  | 70 => ⟨S1024x1x64, .f32⟩
  | 71 => ⟨S1024x64, .f32⟩
  | 72 => ⟨S1024x64, .f32⟩
  | 73 => ⟨S1024x1x64, .f32⟩
  | 74 => ⟨S1024x64, .f32⟩
  | 75 => ⟨S1024x64, .f32⟩
  | 76 => ⟨S1024x1x64, .f32⟩
  | 77 => ⟨S1024x64, .f32⟩
  | 78 => ⟨S1024x64, .f32⟩
  | 79 => ⟨S1024x1x64, .f32⟩
  | 80 => ⟨S1024x64, .f32⟩
  | 81 => ⟨S1024x64, .f32⟩
  | 82 => ⟨S1024x1x64, .f32⟩
  | 83 => ⟨S1024x64, .f32⟩
  | 84 => ⟨S1024x64, .f32⟩
  | 85 => ⟨S1024x1x64, .f32⟩
  | 86 => ⟨S1024x64, .f32⟩
  | 87 => ⟨S1024x64, .f32⟩
  | 88 => ⟨S1024x1x64, .f32⟩
  | 89 => ⟨S1024x64, .f32⟩
  | 90 => ⟨S1024x64, .f32⟩
  | 91 => ⟨S1024x1x64, .f32⟩
  | 92 => ⟨S1024x64, .f32⟩
  | 93 => ⟨S1024x64, .f32⟩
  | 94 => ⟨S1024x1x64, .f32⟩
  | 95 => ⟨S1024x64, .f32⟩
  | 96 => ⟨S1024x64, .f32⟩
  | 97 => ⟨S1024x1x64, .f32⟩
  | 98 => ⟨S1024x64, .f32⟩
  | 99 => ⟨S1024x64, .f32⟩
  | 100 => ⟨S1024x1x64, .f32⟩
  | 101 => ⟨S1024x64, .f32⟩
  | 102 => ⟨S1024x64, .f32⟩
  | 103 => ⟨S1024x1x64, .f32⟩
  | 104 => ⟨S1024x64, .f32⟩
  | 105 => ⟨S1024x64, .f32⟩
  | 106 => ⟨S1024x1x64, .f32⟩
  | 107 => ⟨S1024x64, .f32⟩
  | 108 => ⟨S1024x64, .f32⟩
  | 109 => ⟨S1024x1x64, .f32⟩
  | 110 => ⟨S1024x64, .f32⟩
  | 111 => ⟨S1024x64, .f32⟩
  | 112 => ⟨S1024x1x64, .f32⟩
  | 113 => ⟨S1024x64, .f32⟩
  | 114 => ⟨S1024x64, .f32⟩
  | 115 => ⟨S1024x1x64, .f32⟩
  | 116 => ⟨S1024x64, .f32⟩
  | 117 => ⟨S1024x64, .f32⟩
  | 118 => ⟨S1024x1x64, .f32⟩
  | 119 => ⟨S1024x64, .f32⟩
  | 120 => ⟨S1024x64, .f32⟩
  | 121 => ⟨S1x64, .f32⟩
  | 122 => ⟨S1024x64, .f32⟩
  | 123 => ⟨S1024x64, .f32⟩
  | 124 => ⟨S1x64, .f32⟩
  | 125 => ⟨S1024x64, .f32⟩
  | 126 => ⟨S1024x64, .f32⟩
  | 127 => ⟨S1024x64, .f32⟩
  | _ => ⟨S1024x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1024x64, .f32⟩

abbrev bufTy : (tb : Table) → Fin (tcTables nBuf tb) → BufTy
  | .hbm, ⟨i, _⟩ => hbmTy i
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_c_5 : Ref sig .tc := ⟨.hbm, 28, rfl⟩
abbrev main_v13 : Ref sig .tc := ⟨.hbm, 29, rfl⟩
abbrev main_v14 : Ref sig .tc := ⟨.hbm, 30, rfl⟩
abbrev main_c_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_7 : Ref sig .tc := ⟨.hbm, 36, rfl⟩
abbrev main_v19 : Ref sig .tc := ⟨.hbm, 37, rfl⟩
abbrev main_v20 : Ref sig .tc := ⟨.hbm, 38, rfl⟩
abbrev main_cst_8 : Ref sig .tc := ⟨.hbm, 39, rfl⟩
abbrev main_v21 : Ref sig .tc := ⟨.hbm, 40, rfl⟩
abbrev main_v22 : Ref sig .tc := ⟨.hbm, 41, rfl⟩
abbrev main_cst_9 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_10 : Ref sig .tc := ⟨.hbm, 46, rfl⟩
abbrev main_v26 : Ref sig .tc := ⟨.hbm, 47, rfl⟩
abbrev main_v27 : Ref sig .tc := ⟨.hbm, 48, rfl⟩
abbrev main_cst_11 : Ref sig .tc := ⟨.hbm, 49, rfl⟩
abbrev main_v28 : Ref sig .tc := ⟨.hbm, 50, rfl⟩
abbrev main_v29 : Ref sig .tc := ⟨.hbm, 51, rfl⟩
abbrev main_cst_12 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_13 : Ref sig .tc := ⟨.hbm, 58, rfl⟩
abbrev main_v35 : Ref sig .tc := ⟨.hbm, 59, rfl⟩
abbrev main_v36 : Ref sig .tc := ⟨.hbm, 60, rfl⟩
abbrev main_cst_14 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_15 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_c : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_0 : Ref sig .tc := ⟨.hbm, 85, rfl⟩
abbrev main_call2_v12 : Ref sig .tc := ⟨.hbm, 86, rfl⟩
abbrev main_call2_v13 : Ref sig .tc := ⟨.hbm, 87, rfl⟩
abbrev main_v46 : Ref sig .tc := ⟨.hbm, 88, rfl⟩
abbrev main_c_16 : Ref sig .tc := ⟨.hbm, 89, rfl⟩
abbrev main_call3_v0 : Ref sig .tc := ⟨.hbm, 90, rfl⟩
abbrev main_call3_c : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_c_1 : Ref sig .tc := ⟨.hbm, 97, rfl⟩
abbrev main_call3_v5 : Ref sig .tc := ⟨.hbm, 98, rfl⟩
abbrev main_call3_v6 : Ref sig .tc := ⟨.hbm, 99, rfl⟩
abbrev main_call3_c_2 : Ref sig .tc := ⟨.hbm, 100, rfl⟩
abbrev main_call3_v7 : Ref sig .tc := ⟨.hbm, 101, rfl⟩
abbrev main_call3_v8 : Ref sig .tc := ⟨.hbm, 102, rfl⟩
abbrev main_call3_c_3 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_v47 : Ref sig .tc := ⟨.hbm, 110, rfl⟩
abbrev main_v48 : Ref sig .tc := ⟨.hbm, 111, rfl⟩
abbrev main_c_17 : Ref sig .tc := ⟨.hbm, 112, rfl⟩
abbrev main_v49 : Ref sig .tc := ⟨.hbm, 113, rfl⟩
abbrev main_v50 : Ref sig .tc := ⟨.hbm, 114, rfl⟩
abbrev main_c_18 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_c_19 : Ref sig .tc := ⟨.hbm, 119, rfl⟩
abbrev main_v54 : Ref sig .tc := ⟨.hbm, 120, rfl⟩
abbrev main_v55 : Ref sig .tc := ⟨.hbm, 121, rfl⟩
abbrev main_c_20 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_cst_21 : Ref sig .tc := ⟨.hbm, 132, rfl⟩
abbrev main_cst_22 : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_call4_cst : Ref sig .tc := ⟨.hbm, 137, rfl⟩
abbrev main_call4_v3 : Ref sig .tc := ⟨.hbm, 138, rfl⟩
abbrev main_call4_v4 : Ref sig .tc := ⟨.hbm, 139, rfl⟩
abbrev main_call4_cst_0 : Ref sig .tc := ⟨.hbm, 140, rfl⟩
abbrev main_call4_v5 : Ref sig .tc := ⟨.hbm, 141, rfl⟩
abbrev main_call4_v6 : Ref sig .tc := ⟨.hbm, 142, rfl⟩
abbrev main_call4_v7 : Ref sig .tc := ⟨.hbm, 143, rfl⟩
abbrev main_call4_cst_1 : Ref sig .tc := ⟨.hbm, 144, rfl⟩
abbrev main_call4_v8 : Ref sig .tc := ⟨.hbm, 145, rfl⟩
abbrev main_call4_v9 : Ref sig .tc := ⟨.hbm, 146, rfl⟩
abbrev main_call4_v10 : Ref sig .tc := ⟨.hbm, 147, rfl⟩
abbrev main_call4_v11 : Ref sig .tc := ⟨.hbm, 148, rfl⟩
abbrev main_call4_v12 : Ref sig .tc := ⟨.hbm, 149, rfl⟩
abbrev main_call4_v13 : Ref sig .tc := ⟨.hbm, 150, rfl⟩
abbrev main_call4_v14 : Ref sig .tc := ⟨.hbm, 151, rfl⟩
abbrev main_call4_v15 : Ref sig .tc := ⟨.hbm, 152, rfl⟩
abbrev main_call4_v16 : Ref sig .tc := ⟨.hbm, 153, rfl⟩
abbrev main_v65 : Ref sig .tc := ⟨.hbm, 154, rfl⟩
abbrev main_cst_23 : Ref sig .tc := ⟨.hbm, 155, rfl⟩
abbrev main_v66 : Ref sig .tc := ⟨.hbm, 156, rfl⟩
abbrev main_cst_24 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_cst_25 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_cst_26 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_v224 : Ref sig .tc := ⟨.hbm, 317, rfl⟩
abbrev main_v225 : Ref sig .tc := ⟨.hbm, 318, rfl⟩
abbrev main_v226 : Ref sig .tc := ⟨.hbm, 319, rfl⟩
abbrev main_v227 : Ref sig .tc := ⟨.hbm, 320, rfl⟩
abbrev main_v228 : Ref sig .tc := ⟨.hbm, 321, rfl⟩
abbrev main_v229 : Ref sig .tc := ⟨.hbm, 322, rfl⟩
abbrev main_v230 : Ref sig .tc := ⟨.hbm, 323, rfl⟩
abbrev main_v231 : Ref sig .tc := ⟨.hbm, 324, rfl⟩
abbrev main_v232 : Ref sig .tc := ⟨.hbm, 325, rfl⟩
abbrev main_v233 : Ref sig .tc := ⟨.hbm, 326, rfl⟩
abbrev main_v234 : Ref sig .tc := ⟨.hbm, 327, rfl⟩
abbrev main_v235 : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_v243 : Ref sig .tc := ⟨.hbm, 336, rfl⟩
abbrev main_v244 : Ref sig .tc := ⟨.hbm, 337, rfl⟩
abbrev main_v245 : Ref sig .tc := ⟨.hbm, 338, rfl⟩
abbrev main_v246 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_v250 : Ref sig .tc := ⟨.hbm, 343, rfl⟩
abbrev main_v251 : Ref sig .tc := ⟨.hbm, 344, rfl⟩
abbrev main_v252 : Ref sig .tc := ⟨.hbm, 345, rfl⟩
abbrev main_v253 : Ref sig .tc := ⟨.hbm, 346, rfl⟩
abbrev main_v254 : Ref sig .tc := ⟨.hbm, 347, rfl⟩
abbrev main_v255 : Ref sig .tc := ⟨.hbm, 348, rfl⟩
abbrev main_v256 : Ref sig .tc := ⟨.hbm, 349, rfl⟩
abbrev main_v257 : Ref sig .tc := ⟨.hbm, 350, rfl⟩
abbrev main_v258 : Ref sig .tc := ⟨.hbm, 351, rfl⟩
abbrev main_v259 : Ref sig .tc := ⟨.hbm, 352, rfl⟩
abbrev main_v260 : Ref sig .tc := ⟨.hbm, 353, rfl⟩
abbrev main_v261 : Ref sig .tc := ⟨.hbm, 354, rfl⟩
abbrev main_v262 : Ref sig .tc := ⟨.hbm, 355, rfl⟩
abbrev main_v263 : Ref sig .tc := ⟨.hbm, 356, rfl⟩
abbrev main_v264 : Ref sig .tc := ⟨.hbm, 357, rfl⟩
abbrev main_v265 : Ref sig .tc := ⟨.hbm, 358, rfl⟩
abbrev main_v266 : Ref sig .tc := ⟨.hbm, 359, rfl⟩
abbrev main_v267 : Ref sig .tc := ⟨.hbm, 360, rfl⟩
abbrev main_cst_27 : Ref sig .tc := ⟨.hbm, 361, rfl⟩
abbrev main_v268 : Ref sig .tc := ⟨.hbm, 362, rfl⟩
abbrev main_v269 : Ref sig .tc := ⟨.hbm, 363, rfl⟩
abbrev main_v270 : Ref sig .tc := ⟨.hbm, 364, rfl⟩
abbrev main_v271 : Ref sig .tc := ⟨.hbm, 365, rfl⟩
abbrev main_v272 : Ref sig .tc := ⟨.hbm, 366, rfl⟩
abbrev main_v273 : Ref sig .tc := ⟨.hbm, 367, rfl⟩
abbrev main_v274 : Ref sig .tc := ⟨.hbm, 368, rfl⟩
abbrev main_v275 : Ref sig .tc := ⟨.hbm, 369, rfl⟩
abbrev main_v276 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_v280 : Ref sig .tc := ⟨.hbm, 374, rfl⟩
abbrev main_v281 : Ref sig .tc := ⟨.hbm, 375, rfl⟩
abbrev main_v282 : Ref sig .tc := ⟨.hbm, 376, rfl⟩
abbrev main_v283 : Ref sig .tc := ⟨.hbm, 377, rfl⟩
abbrev main_v284 : Ref sig .tc := ⟨.hbm, 378, rfl⟩
abbrev main_v285 : Ref sig .tc := ⟨.hbm, 379, rfl⟩
abbrev main_v286 : Ref sig .tc := ⟨.hbm, 380, rfl⟩
abbrev main_v287 : Ref sig .tc := ⟨.hbm, 381, rfl⟩
abbrev main_v288 : Ref sig .tc := ⟨.hbm, 382, rfl⟩
abbrev main_v289 : Ref sig .tc := ⟨.hbm, 383, rfl⟩
abbrev main_v290 : Ref sig .tc := ⟨.hbm, 384, rfl⟩
abbrev main_v291 : Ref sig .tc := ⟨.hbm, 385, rfl⟩
abbrev main_v292 : Ref sig .tc := ⟨.hbm, 386, rfl⟩
abbrev main_v293 : Ref sig .tc := ⟨.hbm, 387, rfl⟩
abbrev main_v294 : Ref sig .tc := ⟨.hbm, 388, rfl⟩
abbrev main_v295 : Ref sig .tc := ⟨.hbm, 389, rfl⟩
abbrev main_v296 : Ref sig .tc := ⟨.hbm, 390, rfl⟩
abbrev main_v297 : Ref sig .tc := ⟨.hbm, 391, rfl⟩
abbrev main_v298 : Ref sig .tc := ⟨.hbm, 392, rfl⟩
abbrev main_v299 : Ref sig .tc := ⟨.hbm, 393, rfl⟩
abbrev main_v300 : Ref sig .tc := ⟨.hbm, 394, rfl⟩
abbrev main_v301 : Ref sig .tc := ⟨.hbm, 395, rfl⟩
abbrev main_v302 : Ref sig .tc := ⟨.hbm, 396, rfl⟩
abbrev main_v303 : Ref sig .tc := ⟨.hbm, 397, rfl⟩
abbrev main_v304 : Ref sig .tc := ⟨.hbm, 398, rfl⟩
abbrev main_v305 : Ref sig .tc := ⟨.hbm, 399, rfl⟩
abbrev main_v306 : Ref sig .tc := ⟨.hbm, 400, rfl⟩
abbrev main_v307 : Ref sig .tc := ⟨.hbm, 401, rfl⟩
abbrev main_v308 : Ref sig .tc := ⟨.hbm, 402, rfl⟩
abbrev main_v309 : Ref sig .tc := ⟨.hbm, 403, rfl⟩
abbrev main_v310 : Ref sig .tc := ⟨.hbm, 404, rfl⟩
abbrev main_v311 : Ref sig .tc := ⟨.hbm, 405, rfl⟩
abbrev main_v312 : Ref sig .tc := ⟨.hbm, 406, rfl⟩
abbrev main_v313 : Ref sig .tc := ⟨.hbm, 407, rfl⟩
abbrev main_v314 : Ref sig .tc := ⟨.hbm, 408, rfl⟩
abbrev main_v315 : Ref sig .tc := ⟨.hbm, 409, rfl⟩
abbrev main_v316 : Ref sig .tc := ⟨.hbm, 410, rfl⟩
abbrev main_v317 : Ref sig .tc := ⟨.hbm, 411, rfl⟩
abbrev main_v318 : Ref sig .tc := ⟨.hbm, 412, rfl⟩
abbrev main_v319 : Ref sig .tc := ⟨.hbm, 413, rfl⟩
abbrev main_v320 : Ref sig .tc := ⟨.hbm, 414, rfl⟩
abbrev main_v321 : Ref sig .tc := ⟨.hbm, 415, rfl⟩
abbrev main_v322 : Ref sig .tc := ⟨.hbm, 416, rfl⟩
abbrev main_v323 : Ref sig .tc := ⟨.hbm, 417, rfl⟩
abbrev main_v324 : Ref sig .tc := ⟨.hbm, 418, rfl⟩
abbrev main_v325 : Ref sig .tc := ⟨.hbm, 419, rfl⟩
abbrev main_v326 : Ref sig .tc := ⟨.hbm, 420, rfl⟩
abbrev main_v327 : Ref sig .tc := ⟨.hbm, 421, rfl⟩
abbrev main_v328 : Ref sig .tc := ⟨.hbm, 422, rfl⟩
abbrev main_v329 : Ref sig .tc := ⟨.hbm, 423, rfl⟩
abbrev main_v330 : Ref sig .tc := ⟨.hbm, 424, rfl⟩
abbrev main_v331 : Ref sig .tc := ⟨.hbm, 425, rfl⟩
abbrev main_v332 : Ref sig .tc := ⟨.hbm, 426, rfl⟩
abbrev main_v333 : Ref sig .tc := ⟨.hbm, 427, rfl⟩
abbrev main_v334 : Ref sig .tc := ⟨.hbm, 428, rfl⟩
abbrev main_cst_28 : Ref sig .tc := ⟨.hbm, 429, rfl⟩
abbrev main_v335 : Ref sig .tc := ⟨.hbm, 430, rfl⟩
abbrev main_v336 : Ref sig .tc := ⟨.hbm, 431, rfl⟩
abbrev main_v337 : Ref sig .tc := ⟨.hbm, 432, rfl⟩
abbrev main_v338 : Ref sig .tc := ⟨.hbm, 433, rfl⟩
abbrev main_v339 : Ref sig .tc := ⟨.hbm, 434, rfl⟩
abbrev main_v340 : Ref sig .tc := ⟨.hbm, 435, rfl⟩
abbrev main_v341 : Ref sig .tc := ⟨.hbm, 436, rfl⟩
abbrev main_v342 : Ref sig .tc := ⟨.hbm, 437, rfl⟩
abbrev main_v343 : Ref sig .tc := ⟨.hbm, 438, rfl⟩
abbrev main_v344 : Ref sig .tc := ⟨.hbm, 439, rfl⟩
abbrev main_v345 : Ref sig .tc := ⟨.hbm, 440, rfl⟩
abbrev main_v346 : Ref sig .tc := ⟨.hbm, 441, rfl⟩
abbrev main_v347 : Ref sig .tc := ⟨.hbm, 442, rfl⟩
abbrev main_v348 : Ref sig .tc := ⟨.hbm, 443, rfl⟩
abbrev main_v349 : Ref sig .tc := ⟨.hbm, 444, rfl⟩
abbrev main_v350 : Ref sig .tc := ⟨.hbm, 445, rfl⟩
abbrev main_v351 : Ref sig .tc := ⟨.hbm, 446, rfl⟩
abbrev main_v352 : Ref sig .tc := ⟨.hbm, 447, rfl⟩
abbrev main_v353 : Ref sig .tc := ⟨.hbm, 448, rfl⟩
abbrev main_v354 : Ref sig .tc := ⟨.hbm, 449, rfl⟩
abbrev main_v355 : Ref sig .tc := ⟨.hbm, 450, rfl⟩
abbrev main_v356 : Ref sig .tc := ⟨.hbm, 451, rfl⟩
abbrev main_v357 : Ref sig .tc := ⟨.hbm, 452, rfl⟩
abbrev main_v358 : Ref sig .tc := ⟨.hbm, 453, rfl⟩
abbrev main_v359 : Ref sig .tc := ⟨.hbm, 454, rfl⟩
abbrev main_v360 : Ref sig .tc := ⟨.hbm, 455, rfl⟩
abbrev main_v361 : Ref sig .tc := ⟨.hbm, 456, rfl⟩
abbrev main_v362 : Ref sig .tc := ⟨.hbm, 457, rfl⟩
abbrev main_v363 : Ref sig .tc := ⟨.hbm, 458, rfl⟩
abbrev main_v364 : Ref sig .tc := ⟨.hbm, 459, rfl⟩
abbrev main_v365 : Ref sig .tc := ⟨.hbm, 460, rfl⟩
abbrev main_v366 : Ref sig .tc := ⟨.hbm, 461, rfl⟩
abbrev main_v367 : Ref sig .tc := ⟨.hbm, 462, rfl⟩
abbrev main_v368 : Ref sig .tc := ⟨.hbm, 463, rfl⟩
abbrev main_v369 : Ref sig .tc := ⟨.hbm, 464, rfl⟩
abbrev main_v370 : Ref sig .tc := ⟨.hbm, 465, rfl⟩
abbrev main_v371 : Ref sig .tc := ⟨.hbm, 466, rfl⟩
abbrev main_v372 : Ref sig .tc := ⟨.hbm, 467, rfl⟩
abbrev main_v373 : Ref sig .tc := ⟨.hbm, 468, rfl⟩
abbrev main_v374 : Ref sig .tc := ⟨.hbm, 469, rfl⟩
abbrev main_v375 : Ref sig .tc := ⟨.hbm, 470, rfl⟩
abbrev main_v376 : Ref sig .tc := ⟨.hbm, 471, rfl⟩
abbrev main_v377 : Ref sig .tc := ⟨.hbm, 472, rfl⟩
abbrev main_v378 : Ref sig .tc := ⟨.hbm, 473, rfl⟩
abbrev main_v379 : Ref sig .tc := ⟨.hbm, 474, rfl⟩
abbrev main_v380 : Ref sig .tc := ⟨.hbm, 475, rfl⟩
abbrev main_v381 : Ref sig .tc := ⟨.hbm, 476, rfl⟩
abbrev main_v382 : Ref sig .tc := ⟨.hbm, 477, rfl⟩
abbrev main_v383 : Ref sig .tc := ⟨.hbm, 478, rfl⟩
abbrev main_v384 : Ref sig .tc := ⟨.hbm, 479, rfl⟩
abbrev main_v385 : Ref sig .tc := ⟨.hbm, 480, rfl⟩
abbrev main_v386 : Ref sig .tc := ⟨.hbm, 481, rfl⟩
abbrev main_v387 : Ref sig .tc := ⟨.hbm, 482, rfl⟩
abbrev main_v388 : Ref sig .tc := ⟨.hbm, 483, rfl⟩
abbrev main_v389 : Ref sig .tc := ⟨.hbm, 484, rfl⟩
abbrev main_v390 : Ref sig .tc := ⟨.hbm, 485, rfl⟩
abbrev main_v391 : Ref sig .tc := ⟨.hbm, 486, rfl⟩
abbrev main_v392 : Ref sig .tc := ⟨.hbm, 487, rfl⟩
abbrev main_v393 : Ref sig .tc := ⟨.hbm, 488, rfl⟩
abbrev main_v394 : Ref sig .tc := ⟨.hbm, 489, rfl⟩
abbrev main_v395 : Ref sig .tc := ⟨.hbm, 490, rfl⟩
abbrev main_v396 : Ref sig .tc := ⟨.hbm, 491, rfl⟩
abbrev main_v397 : Ref sig .tc := ⟨.hbm, 492, rfl⟩
abbrev main_v398 : Ref sig .tc := ⟨.hbm, 493, rfl⟩
abbrev main_v399 : Ref sig .tc := ⟨.hbm, 494, rfl⟩
abbrev main_v400 : Ref sig .tc := ⟨.hbm, 495, rfl⟩
abbrev main_v401 : Ref sig .tc := ⟨.hbm, 496, rfl⟩
abbrev main_cst_29 : Ref sig .tc := ⟨.hbm, 497, rfl⟩
abbrev main_v402 : Ref sig .tc := ⟨.hbm, 498, rfl⟩
abbrev main_v403 : Ref sig .tc := ⟨.hbm, 499, rfl⟩
abbrev main_v404 : Ref sig .tc := ⟨.hbm, 500, rfl⟩
abbrev main_v405 : Ref sig .tc := ⟨.hbm, 501, rfl⟩
abbrev main_v406 : Ref sig .tc := ⟨.hbm, 502, rfl⟩
abbrev main_v407 : Ref sig .tc := ⟨.hbm, 503, rfl⟩
abbrev main_v408 : Ref sig .tc := ⟨.hbm, 504, rfl⟩
abbrev main_v409 : Ref sig .tc := ⟨.hbm, 505, rfl⟩
abbrev main_v410 : Ref sig .tc := ⟨.hbm, 506, rfl⟩
abbrev main_v411 : Ref sig .tc := ⟨.hbm, 507, rfl⟩
abbrev main_v412 : Ref sig .tc := ⟨.hbm, 508, rfl⟩
abbrev main_v413 : Ref sig .tc := ⟨.hbm, 509, rfl⟩
abbrev main_v414 : Ref sig .tc := ⟨.hbm, 510, rfl⟩
abbrev main_v415 : Ref sig .tc := ⟨.hbm, 511, rfl⟩
abbrev main_v416 : Ref sig .tc := ⟨.hbm, 512, rfl⟩
abbrev main_v417 : Ref sig .tc := ⟨.hbm, 513, rfl⟩
abbrev main_v418 : Ref sig .tc := ⟨.hbm, 514, rfl⟩
abbrev main_v419 : Ref sig .tc := ⟨.hbm, 515, rfl⟩
abbrev main_v420 : Ref sig .tc := ⟨.hbm, 516, rfl⟩
abbrev main_v421 : Ref sig .tc := ⟨.hbm, 517, rfl⟩
abbrev main_v422 : Ref sig .tc := ⟨.hbm, 518, rfl⟩
abbrev main_v423 : Ref sig .tc := ⟨.hbm, 519, rfl⟩
abbrev main_v424 : Ref sig .tc := ⟨.hbm, 520, rfl⟩
abbrev main_v425 : Ref sig .tc := ⟨.hbm, 521, rfl⟩
abbrev main_v426 : Ref sig .tc := ⟨.hbm, 522, rfl⟩
abbrev main_v427 : Ref sig .tc := ⟨.hbm, 523, rfl⟩
abbrev main_v428 : Ref sig .tc := ⟨.hbm, 524, rfl⟩
abbrev main_v429 : Ref sig .tc := ⟨.hbm, 525, rfl⟩
abbrev main_v430 : Ref sig .tc := ⟨.hbm, 526, rfl⟩
abbrev main_v431 : Ref sig .tc := ⟨.hbm, 527, rfl⟩
abbrev main_v432 : Ref sig .tc := ⟨.hbm, 528, rfl⟩
abbrev main_v433 : Ref sig .tc := ⟨.hbm, 529, rfl⟩
abbrev main_v434 : Ref sig .tc := ⟨.hbm, 530, rfl⟩
abbrev main_v435 : Ref sig .tc := ⟨.hbm, 531, rfl⟩
abbrev main_v436 : Ref sig .tc := ⟨.hbm, 532, rfl⟩
abbrev main_v437 : Ref sig .tc := ⟨.hbm, 533, rfl⟩
abbrev main_v438 : Ref sig .tc := ⟨.hbm, 534, rfl⟩
abbrev main_v439 : Ref sig .tc := ⟨.hbm, 535, rfl⟩
abbrev main_v440 : Ref sig .tc := ⟨.hbm, 536, rfl⟩
abbrev main_v441 : Ref sig .tc := ⟨.hbm, 537, rfl⟩
abbrev main_v442 : Ref sig .tc := ⟨.hbm, 538, rfl⟩
abbrev main_v443 : Ref sig .tc := ⟨.hbm, 539, rfl⟩
abbrev main_v444 : Ref sig .tc := ⟨.hbm, 540, rfl⟩
abbrev main_v445 : Ref sig .tc := ⟨.hbm, 541, rfl⟩
abbrev main_v446 : Ref sig .tc := ⟨.hbm, 542, rfl⟩
abbrev main_v447 : Ref sig .tc := ⟨.hbm, 543, rfl⟩
abbrev main_v448 : Ref sig .tc := ⟨.hbm, 544, rfl⟩
abbrev main_v449 : Ref sig .tc := ⟨.hbm, 545, rfl⟩
abbrev main_v450 : Ref sig .tc := ⟨.hbm, 546, rfl⟩
abbrev main_v451 : Ref sig .tc := ⟨.hbm, 547, rfl⟩
abbrev main_v452 : Ref sig .tc := ⟨.hbm, 548, rfl⟩
abbrev main_v453 : Ref sig .tc := ⟨.hbm, 549, rfl⟩
abbrev main_v454 : Ref sig .tc := ⟨.hbm, 550, rfl⟩
abbrev main_v455 : Ref sig .tc := ⟨.hbm, 551, rfl⟩
abbrev main_v456 : Ref sig .tc := ⟨.hbm, 552, rfl⟩
abbrev main_v457 : Ref sig .tc := ⟨.hbm, 553, rfl⟩
abbrev main_v458 : Ref sig .tc := ⟨.hbm, 554, rfl⟩
abbrev main_v459 : Ref sig .tc := ⟨.hbm, 555, rfl⟩
abbrev main_v460 : Ref sig .tc := ⟨.hbm, 556, rfl⟩
abbrev main_v461 : Ref sig .tc := ⟨.hbm, 557, rfl⟩
abbrev main_v462 : Ref sig .tc := ⟨.hbm, 558, rfl⟩
abbrev main_v463 : Ref sig .tc := ⟨.hbm, 559, rfl⟩
abbrev main_v464 : Ref sig .tc := ⟨.hbm, 560, rfl⟩
abbrev main_v465 : Ref sig .tc := ⟨.hbm, 561, rfl⟩
abbrev main_v466 : Ref sig .tc := ⟨.hbm, 562, rfl⟩
abbrev main_v467 : Ref sig .tc := ⟨.hbm, 563, rfl⟩
abbrev main_v468 : Ref sig .tc := ⟨.hbm, 564, rfl⟩
abbrev main_cst_30 : Ref sig .tc := ⟨.hbm, 565, rfl⟩
abbrev main_v469 : Ref sig .tc := ⟨.hbm, 566, rfl⟩
abbrev main_cst_31 : Ref sig .tc := ⟨.hbm, 567, rfl⟩
abbrev main_v470 : Ref sig .tc := ⟨.hbm, 568, rfl⟩
abbrev main_v471 : Ref sig .tc := ⟨.hbm, 569, rfl⟩
abbrev main_v472 : Ref sig .tc := ⟨.hbm, 570, rfl⟩
abbrev main_v473 : Ref sig .tc := ⟨.hbm, 571, rfl⟩
abbrev main_v474 : Ref sig .tc := ⟨.hbm, 572, rfl⟩
abbrev main_v475 : Ref sig .tc := ⟨.hbm, 573, rfl⟩
abbrev main_v476 : Ref sig .tc := ⟨.hbm, 574, rfl⟩
abbrev main_v477 : Ref sig .tc := ⟨.hbm, 575, rfl⟩
abbrev main_v478 : Ref sig .tc := ⟨.hbm, 576, rfl⟩
abbrev main_v479 : Ref sig .tc := ⟨.hbm, 577, rfl⟩
abbrev main_v480 : Ref sig .tc := ⟨.hbm, 578, rfl⟩
abbrev main_v481 : Ref sig .tc := ⟨.hbm, 579, rfl⟩
abbrev main_v482 : Ref sig .tc := ⟨.hbm, 580, rfl⟩
abbrev main_v483 : Ref sig .tc := ⟨.hbm, 581, rfl⟩
abbrev main_v484 : Ref sig .tc := ⟨.hbm, 582, rfl⟩
abbrev main_v485 : Ref sig .tc := ⟨.hbm, 583, rfl⟩
abbrev main_v486 : Ref sig .tc := ⟨.hbm, 584, rfl⟩
abbrev main_v487 : Ref sig .tc := ⟨.hbm, 585, rfl⟩
abbrev main_v488 : Ref sig .tc := ⟨.hbm, 586, rfl⟩
abbrev main_v489 : Ref sig .tc := ⟨.hbm, 587, rfl⟩
abbrev main_v490 : Ref sig .tc := ⟨.hbm, 588, rfl⟩
abbrev main_v491 : Ref sig .tc := ⟨.hbm, 589, rfl⟩
abbrev main_v492 : Ref sig .tc := ⟨.hbm, 590, rfl⟩
abbrev main_v493 : Ref sig .tc := ⟨.hbm, 591, rfl⟩
abbrev main_v494 : Ref sig .tc := ⟨.hbm, 592, rfl⟩
abbrev main_v495 : Ref sig .tc := ⟨.hbm, 593, rfl⟩
abbrev main_v496 : Ref sig .tc := ⟨.hbm, 594, rfl⟩
abbrev main_v497 : Ref sig .tc := ⟨.hbm, 595, rfl⟩
abbrev main_v498 : Ref sig .tc := ⟨.hbm, 596, rfl⟩
abbrev main_v499 : Ref sig .tc := ⟨.hbm, 597, rfl⟩
abbrev main_v500 : Ref sig .tc := ⟨.hbm, 598, rfl⟩
abbrev main_v501 : Ref sig .tc := ⟨.hbm, 599, rfl⟩
abbrev main_v502 : Ref sig .tc := ⟨.hbm, 600, rfl⟩
abbrev main_v503 : Ref sig .tc := ⟨.hbm, 601, rfl⟩
abbrev main_v504 : Ref sig .tc := ⟨.hbm, 602, rfl⟩
abbrev main_v505 : Ref sig .tc := ⟨.hbm, 603, rfl⟩
abbrev main_v506 : Ref sig .tc := ⟨.hbm, 604, rfl⟩
abbrev main_v507 : Ref sig .tc := ⟨.hbm, 605, rfl⟩
abbrev main_v508 : Ref sig .tc := ⟨.hbm, 606, rfl⟩
abbrev main_v509 : Ref sig .tc := ⟨.hbm, 607, rfl⟩
abbrev main_v510 : Ref sig .tc := ⟨.hbm, 608, rfl⟩
abbrev main_v511 : Ref sig .tc := ⟨.hbm, 609, rfl⟩
abbrev main_v512 : Ref sig .tc := ⟨.hbm, 610, rfl⟩
abbrev main_v513 : Ref sig .tc := ⟨.hbm, 611, rfl⟩
abbrev main_v514 : Ref sig .tc := ⟨.hbm, 612, rfl⟩
abbrev main_v515 : Ref sig .tc := ⟨.hbm, 613, rfl⟩
abbrev main_v516 : Ref sig .tc := ⟨.hbm, 614, rfl⟩
abbrev main_v517 : Ref sig .tc := ⟨.hbm, 615, rfl⟩
abbrev main_v518 : Ref sig .tc := ⟨.hbm, 616, rfl⟩
abbrev main_v519 : Ref sig .tc := ⟨.hbm, 617, rfl⟩
abbrev main_v520 : Ref sig .tc := ⟨.hbm, 618, rfl⟩
abbrev main_v521 : Ref sig .tc := ⟨.hbm, 619, rfl⟩
abbrev main_v522 : Ref sig .tc := ⟨.hbm, 620, rfl⟩
abbrev main_v523 : Ref sig .tc := ⟨.hbm, 621, rfl⟩
abbrev main_v524 : Ref sig .tc := ⟨.hbm, 622, rfl⟩
abbrev main_v525 : Ref sig .tc := ⟨.hbm, 623, rfl⟩
abbrev main_v526 : Ref sig .tc := ⟨.hbm, 624, rfl⟩
abbrev main_v527 : Ref sig .tc := ⟨.hbm, 625, rfl⟩
abbrev main_v528 : Ref sig .tc := ⟨.hbm, 626, rfl⟩
abbrev main_v529 : Ref sig .tc := ⟨.hbm, 627, rfl⟩
abbrev main_v530 : Ref sig .tc := ⟨.hbm, 628, rfl⟩
abbrev main_v531 : Ref sig .tc := ⟨.hbm, 629, rfl⟩
abbrev main_v532 : Ref sig .tc := ⟨.hbm, 630, rfl⟩
abbrev main_v533 : Ref sig .tc := ⟨.hbm, 631, rfl⟩
abbrev main_v534 : Ref sig .tc := ⟨.hbm, 632, rfl⟩
abbrev main_v535 : Ref sig .tc := ⟨.hbm, 633, rfl⟩
abbrev main_v536 : Ref sig .tc := ⟨.hbm, 634, rfl⟩
abbrev main_v537 : Ref sig .tc := ⟨.hbm, 635, rfl⟩
abbrev main_v538 : Ref sig .tc := ⟨.hbm, 636, rfl⟩
abbrev main_v539 : Ref sig .tc := ⟨.hbm, 637, rfl⟩
abbrev main_v540 : Ref sig .tc := ⟨.hbm, 638, rfl⟩
abbrev main_v541 : Ref sig .tc := ⟨.hbm, 639, rfl⟩
abbrev main_v542 : Ref sig .tc := ⟨.hbm, 640, rfl⟩
abbrev main_v543 : Ref sig .tc := ⟨.hbm, 641, rfl⟩
abbrev main_v544 : Ref sig .tc := ⟨.hbm, 642, rfl⟩
abbrev main_v545 : Ref sig .tc := ⟨.hbm, 643, rfl⟩
abbrev main_v546 : Ref sig .tc := ⟨.hbm, 644, rfl⟩
abbrev main_v547 : Ref sig .tc := ⟨.hbm, 645, rfl⟩
abbrev main_v548 : Ref sig .tc := ⟨.hbm, 646, rfl⟩
abbrev main_v549 : Ref sig .tc := ⟨.hbm, 647, rfl⟩
abbrev main_v550 : Ref sig .tc := ⟨.hbm, 648, rfl⟩
abbrev main_v551 : Ref sig .tc := ⟨.hbm, 649, rfl⟩
abbrev main_v552 : Ref sig .tc := ⟨.hbm, 650, rfl⟩
abbrev main_v553 : Ref sig .tc := ⟨.hbm, 651, rfl⟩
abbrev main_v554 : Ref sig .tc := ⟨.hbm, 652, rfl⟩
abbrev main_v555 : Ref sig .tc := ⟨.hbm, 653, rfl⟩
abbrev main_v556 : Ref sig .tc := ⟨.hbm, 654, rfl⟩
abbrev main_v557 : Ref sig .tc := ⟨.hbm, 655, rfl⟩
abbrev main_v558 : Ref sig .tc := ⟨.hbm, 656, rfl⟩
abbrev main_v559 : Ref sig .tc := ⟨.hbm, 657, rfl⟩
abbrev main_v560 : Ref sig .tc := ⟨.hbm, 658, rfl⟩
abbrev main_v561 : Ref sig .tc := ⟨.hbm, 659, rfl⟩
abbrev main_v562 : Ref sig .tc := ⟨.hbm, 660, rfl⟩
abbrev main_v563 : Ref sig .tc := ⟨.hbm, 661, rfl⟩
abbrev main_v564 : Ref sig .tc := ⟨.hbm, 662, rfl⟩
abbrev main_v565 : Ref sig .tc := ⟨.hbm, 663, rfl⟩
abbrev main_v566 : Ref sig .tc := ⟨.hbm, 664, rfl⟩
abbrev main_v567 : Ref sig .tc := ⟨.hbm, 665, rfl⟩
abbrev main_v568 : Ref sig .tc := ⟨.hbm, 666, rfl⟩
abbrev main_v569 : Ref sig .tc := ⟨.hbm, 667, rfl⟩
abbrev main_v570 : Ref sig .tc := ⟨.hbm, 668, rfl⟩
abbrev main_v571 : Ref sig .tc := ⟨.hbm, 669, rfl⟩
abbrev main_v572 : Ref sig .tc := ⟨.hbm, 670, rfl⟩
abbrev main_v573 : Ref sig .tc := ⟨.hbm, 671, rfl⟩
abbrev main_v574 : Ref sig .tc := ⟨.hbm, 672, rfl⟩
abbrev main_v575 : Ref sig .tc := ⟨.hbm, 673, rfl⟩
abbrev main_v576 : Ref sig .tc := ⟨.hbm, 674, rfl⟩
abbrev main_v577 : Ref sig .tc := ⟨.hbm, 675, rfl⟩
abbrev main_v578 : Ref sig .tc := ⟨.hbm, 676, rfl⟩
abbrev main_v579 : Ref sig .tc := ⟨.hbm, 677, rfl⟩
abbrev main_v580 : Ref sig .tc := ⟨.hbm, 678, rfl⟩
abbrev main_v581 : Ref sig .tc := ⟨.hbm, 679, rfl⟩
abbrev main_v582 : Ref sig .tc := ⟨.hbm, 680, rfl⟩
abbrev main_v583 : Ref sig .tc := ⟨.hbm, 681, rfl⟩
abbrev main_v584 : Ref sig .tc := ⟨.hbm, 682, rfl⟩
abbrev main_v585 : Ref sig .tc := ⟨.hbm, 683, rfl⟩
abbrev main_v586 : Ref sig .tc := ⟨.hbm, 684, rfl⟩
abbrev main_v587 : Ref sig .tc := ⟨.hbm, 685, rfl⟩
abbrev main_v588 : Ref sig .tc := ⟨.hbm, 686, rfl⟩
abbrev main_v589 : Ref sig .tc := ⟨.hbm, 687, rfl⟩
abbrev main_v590 : Ref sig .tc := ⟨.hbm, 688, rfl⟩
abbrev main_v591 : Ref sig .tc := ⟨.hbm, 689, rfl⟩
abbrev main_v592 : Ref sig .tc := ⟨.hbm, 690, rfl⟩
abbrev main_v593 : Ref sig .tc := ⟨.hbm, 691, rfl⟩
abbrev main_v594 : Ref sig .tc := ⟨.hbm, 692, rfl⟩
abbrev main_v595 : Ref sig .tc := ⟨.hbm, 693, rfl⟩
abbrev main_v596 : Ref sig .tc := ⟨.hbm, 694, rfl⟩
abbrev main_v597 : Ref sig .tc := ⟨.hbm, 695, rfl⟩
abbrev main_v598 : Ref sig .tc := ⟨.hbm, 696, rfl⟩
abbrev main_v599 : Ref sig .tc := ⟨.hbm, 697, rfl⟩
abbrev main_v600 : Ref sig .tc := ⟨.hbm, 698, rfl⟩
abbrev main_v601 : Ref sig .tc := ⟨.hbm, 699, rfl⟩
abbrev main_v602 : Ref sig .tc := ⟨.hbm, 700, rfl⟩
abbrev main_v603 : Ref sig .tc := ⟨.hbm, 701, rfl⟩
abbrev main_v604 : Ref sig .tc := ⟨.hbm, 702, rfl⟩
abbrev main_v605 : Ref sig .tc := ⟨.hbm, 703, rfl⟩
abbrev main_v606 : Ref sig .tc := ⟨.hbm, 704, rfl⟩
abbrev main_v607 : Ref sig .tc := ⟨.hbm, 705, rfl⟩
abbrev main_v608 : Ref sig .tc := ⟨.hbm, 706, rfl⟩
abbrev main_v609 : Ref sig .tc := ⟨.hbm, 707, rfl⟩
abbrev main_v610 : Ref sig .tc := ⟨.hbm, 708, rfl⟩
abbrev main_v611 : Ref sig .tc := ⟨.hbm, 709, rfl⟩
abbrev main_v612 : Ref sig .tc := ⟨.hbm, 710, rfl⟩
abbrev main_v613 : Ref sig .tc := ⟨.hbm, 711, rfl⟩
abbrev main_v614 : Ref sig .tc := ⟨.hbm, 712, rfl⟩
abbrev main_v615 : Ref sig .tc := ⟨.hbm, 713, rfl⟩
abbrev main_v616 : Ref sig .tc := ⟨.hbm, 714, rfl⟩
abbrev main_v617 : Ref sig .tc := ⟨.hbm, 715, rfl⟩
abbrev main_v618 : Ref sig .tc := ⟨.hbm, 716, rfl⟩
abbrev main_v619 : Ref sig .tc := ⟨.hbm, 717, rfl⟩
abbrev main_v620 : Ref sig .tc := ⟨.hbm, 718, rfl⟩
abbrev main_v621 : Ref sig .tc := ⟨.hbm, 719, rfl⟩
abbrev main_v622 : Ref sig .tc := ⟨.hbm, 720, rfl⟩
abbrev main_v623 : Ref sig .tc := ⟨.hbm, 721, rfl⟩
abbrev main_v624 : Ref sig .tc := ⟨.hbm, 722, rfl⟩
abbrev main_v625 : Ref sig .tc := ⟨.hbm, 723, rfl⟩
abbrev main_v626 : Ref sig .tc := ⟨.hbm, 724, rfl⟩
abbrev main_v627 : Ref sig .tc := ⟨.hbm, 725, rfl⟩
abbrev main_v628 : Ref sig .tc := ⟨.hbm, 726, rfl⟩
abbrev main_v629 : Ref sig .tc := ⟨.hbm, 727, rfl⟩
abbrev main_v630 : Ref sig .tc := ⟨.hbm, 728, rfl⟩
abbrev main_v631 : Ref sig .tc := ⟨.hbm, 729, rfl⟩
abbrev main_v632 : Ref sig .tc := ⟨.hbm, 730, rfl⟩
abbrev main_v633 : Ref sig .tc := ⟨.hbm, 731, rfl⟩
abbrev main_v634 : Ref sig .tc := ⟨.hbm, 732, rfl⟩
abbrev main_v635 : Ref sig .tc := ⟨.hbm, 733, rfl⟩
abbrev main_v636 : Ref sig .tc := ⟨.hbm, 734, rfl⟩
abbrev main_v637 : Ref sig .tc := ⟨.hbm, 735, rfl⟩
abbrev main_v638 : Ref sig .tc := ⟨.hbm, 736, rfl⟩
abbrev main_v639 : Ref sig .tc := ⟨.hbm, 737, rfl⟩
abbrev main_v640 : Ref sig .tc := ⟨.hbm, 738, rfl⟩
abbrev main_v641 : Ref sig .tc := ⟨.hbm, 739, rfl⟩
abbrev main_v642 : Ref sig .tc := ⟨.hbm, 740, rfl⟩
abbrev main_v643 : Ref sig .tc := ⟨.hbm, 741, rfl⟩
abbrev main_v644 : Ref sig .tc := ⟨.hbm, 742, rfl⟩
abbrev main_v645 : Ref sig .tc := ⟨.hbm, 743, rfl⟩
abbrev main_v646 : Ref sig .tc := ⟨.hbm, 744, rfl⟩
abbrev main_v647 : Ref sig .tc := ⟨.hbm, 745, rfl⟩
abbrev main_v648 : Ref sig .tc := ⟨.hbm, 746, rfl⟩
abbrev main_v649 : Ref sig .tc := ⟨.hbm, 747, rfl⟩
abbrev main_v650 : Ref sig .tc := ⟨.hbm, 748, rfl⟩
abbrev main_v651 : Ref sig .tc := ⟨.hbm, 749, rfl⟩
abbrev main_v652 : Ref sig .tc := ⟨.hbm, 750, rfl⟩
abbrev main_v653 : Ref sig .tc := ⟨.hbm, 751, rfl⟩
abbrev main_v654 : Ref sig .tc := ⟨.hbm, 752, rfl⟩
abbrev main_v655 : Ref sig .tc := ⟨.hbm, 753, rfl⟩
abbrev main_v656 : Ref sig .tc := ⟨.hbm, 754, rfl⟩
abbrev main_v657 : Ref sig .tc := ⟨.hbm, 755, rfl⟩
abbrev main_v658 : Ref sig .tc := ⟨.hbm, 756, rfl⟩
abbrev main_v659 : Ref sig .tc := ⟨.hbm, 757, rfl⟩
abbrev main_v660 : Ref sig .tc := ⟨.hbm, 758, rfl⟩
abbrev main_v661 : Ref sig .tc := ⟨.hbm, 759, rfl⟩
abbrev main_v662 : Ref sig .tc := ⟨.hbm, 760, rfl⟩
abbrev main_v663 : Ref sig .tc := ⟨.hbm, 761, rfl⟩
abbrev main_v664 : Ref sig .tc := ⟨.hbm, 762, rfl⟩
abbrev main_v665 : Ref sig .tc := ⟨.hbm, 763, rfl⟩
abbrev main_v666 : Ref sig .tc := ⟨.hbm, 764, rfl⟩
abbrev main_v667 : Ref sig .tc := ⟨.hbm, 765, rfl⟩
abbrev main_v668 : Ref sig .tc := ⟨.hbm, 766, rfl⟩
abbrev main_v669 : Ref sig .tc := ⟨.hbm, 767, rfl⟩

abbrev nD : Nat := 1
abbrev τ : Topo := Topo.v7x

variable {F : FTy → Type} [FloatOps F]
-- ==== Proof.Consts.lean ====
/- The float constants the two programs spell, as the extended reals they denote at the ideal instance, and the named
   constants as the reals their names stand for. -/
module

public import proofs.«01_k».proof.KernelIdeal
public import Idealize.ShloMosaic.PureOps.Ideal
public import Idealize.ShloMosaic.PureOps.IdealRules

@[expose] public section

noncomputable section

namespace Cert.Lagrange

open Idealize.ShloMosaic

/-- The pattern of `0.0` denotes zero. -/
theorem bits_zero : Ideal.ofBits .f32 0x00000000#32 = 0 := by
  simp [Ideal.ofBits, Ideal.ieee]

/-- The pattern of `1.0` denotes one. -/
theorem bits_one : Ideal.ofBits .f32 0x3F800000#32 = 1 := by
  simp [Ideal.ofBits, Ideal.ieee, -EReal.coe_mul]; norm_num

/-- The pattern of `1.0` denotes the real one. -/
theorem bits_one_coe : Ideal.ofBits .f32 0x3F800000#32 = ((1 : ℝ) : EReal) := by
  rw [bits_one, EReal.coe_one]

/-- The pattern of `-1.0` denotes minus one. -/
theorem bits_neg_one : Ideal.ofBits .f32 0xBF800000#32 = ((-1 : ℝ) : EReal) := by
  simp [Ideal.ofBits, Ideal.ieee, -EReal.coe_mul]; norm_num

/-- The pattern of `2.0` denotes two. -/
theorem bits_two : Ideal.ofBits .f32 0x40000000#32 = ((2 : ℝ) : EReal) := by
  simp [Ideal.ofBits, Ideal.ieee, -EReal.coe_mul]; norm_num

/-- The pattern of `5.0` denotes five. -/
theorem bits_five : Ideal.ofBits .f32 0x40A00000#32 = ((5 : ℝ) : EReal) := by
  simp [Ideal.ofBits, Ideal.ieee, -EReal.coe_mul]; norm_num

/-- The pattern of `8.0` denotes eight. -/
theorem bits_eight : Ideal.ofBits .f32 0x41000000#32 = ((8 : ℝ) : EReal) := by
  simp [Ideal.ofBits, Ideal.ieee, -EReal.coe_mul]; norm_num

open Cert.KernelIdeal in
/-- The nodes `-3/5`, `-1/5`, `1/5`, `3/5` by their names. -/
theorem named_nodes :
    Named.named (F := Ideal) (φ := .f32) κ "node1" 0xBF19999A#32 = ((-3 / 5 : ℝ) : EReal)
    ∧ Named.named (F := Ideal) (φ := .f32) κ "node2" 0xBE4CCCCD#32 = ((-1 / 5 : ℝ) : EReal)
    ∧ Named.named (F := Ideal) (φ := .f32) κ "node3" 0x3E4CCCCD#32 = ((1 / 5 : ℝ) : EReal)
    ∧ Named.named (F := Ideal) (φ := .f32) κ "node4" 0x3F19999A#32 = ((3 / 5 : ℝ) : EReal) :=
  ⟨IdealRules.named_const.ideal_named_scalar _ _ _ _ rfl, IdealRules.named_const.ideal_named_scalar _ _ _ _ rfl,
   IdealRules.named_const.ideal_named_scalar _ _ _ _ rfl, IdealRules.named_const.ideal_named_scalar _ _ _ _ rfl⟩

open Cert.KernelIdeal in
/-- The reciprocals of the six basis denominators by their names. -/
theorem named_invd :
    Named.named (F := Ideal) (φ := .f32) κ "invd0" 0xBF505555#32 = ((-625 / 768 : ℝ) : EReal)
    ∧ Named.named (F := Ideal) (φ := .f32) κ "invd1" 0x40823555#32 = ((3125 / 768 : ℝ) : EReal)
    ∧ Named.named (F := Ideal) (φ := .f32) κ "invd2" 0xC1023555#32 = ((-3125 / 384 : ℝ) : EReal)
    ∧ Named.named (F := Ideal) (φ := .f32) κ "invd3" 0x41023555#32 = ((3125 / 384 : ℝ) : EReal)
    ∧ Named.named (F := Ideal) (φ := .f32) κ "invd4" 0xC0823555#32 = ((-3125 / 768 : ℝ) : EReal)
    ∧ Named.named (F := Ideal) (φ := .f32) κ "invd5" 0x3F505555#32 = ((625 / 768 : ℝ) : EReal) :=
  ⟨IdealRules.named_const.ideal_named_scalar _ _ _ _ rfl, IdealRules.named_const.ideal_named_scalar _ _ _ _ rfl,
   IdealRules.named_const.ideal_named_scalar _ _ _ _ rfl, IdealRules.named_const.ideal_named_scalar _ _ _ _ rfl,
   IdealRules.named_const.ideal_named_scalar _ _ _ _ rfl, IdealRules.named_const.ideal_named_scalar _ _ _ _ rfl⟩

end Cert.Lagrange

end
-- ==== Proof.Spec.lean ====
/- The function both programs compute, entry by entry over the extended reals: each input value is put in one of eight
   segments of [-1, 1] and in a local coordinate on that segment; the layer interpolates there with the Lagrange
   polynomials of degree five on six equispaced nodes, once per input feature and output, and combines the features by
   their sum and by their product. -/
module

public import Idealize.ShloMosaic.PureOps.Ideal

@[expose] public section

noncomputable section

namespace Cert.Lagrange

open Idealize.ShloMosaic

/-- The segment of an input value, as the 32-bit word of a number from 0 to 7: `(x + 1) / 2 · 8` truncated and clipped. -/
def seg (x : EReal) : BitVec 32 :=
  IntOp.maxsi (IntOp.minsi (Ideal.fptosi 32 (Ideal.div (x + 1) ((2 : ℝ) : EReal) * ((8 : ℝ) : EReal))) 7#32) 0#32

/-- The left end of segment number `b`: `b / 8 · 2 - 1`. -/
def edge (b : EReal) : EReal := Ideal.div b ((8 : ℝ) : EReal) * ((2 : ℝ) : EReal) - 1

/-- The local coordinate of an input value on its segment, between -1 and 1 inside it. -/
def loc (x : EReal) : EReal :=
  ((2 : ℝ) : EReal) * Ideal.div (x - edge (((seg x).toInt : ℝ) : EReal))
    (edge ((((seg x).toInt : ℝ) : EReal) + 1) - edge (((seg x).toInt : ℝ) : EReal)) - 1

/-- Interpolation node `m` of six: `-1 + 2 m / 5`. -/
def node (m : Fin 6) : ℝ := -1 + 2 * (m.val : ℝ) / 5

/-- Lagrange's basis polynomial `j` at `u`: the product of `u` minus every other node, over the product of node `j`
    minus every other node. -/
def lag (u : EReal) (j : Fin 6) : EReal :=
  (∏ i : Fin 5, (u - (node (j.succAbove i) : EReal))) * (((∏ i : Fin 5, (node j - node (j.succAbove i)))⁻¹ : ℝ) : EReal)

/-- The interpolant of one input value with one feature's weights `c` (48 of them, six to a segment). -/
def interp (x : EReal) (c : Fin 48 → EReal) : EReal :=
  ∑ j : Fin 6, lag (loc x) j * c (Fin.ofNat 48 ((seg x).toNat * 6 + j.val))

/-- One entry of the layer's result: the sum over the features times the sum's weight, plus the product over the features
    times the product's weight. -/
def entry (x : Fin 64 → EReal) (w : Fin 64 → Fin 48 → EReal) (s p : EReal) : EReal :=
  (∑ i : Fin 64, interp (x i) (w i)) * s + (∏ i : Fin 64, interp (x i) (w i)) * p

/-- The segment's word is at most 7, and not negative read signed. -/
theorem seg_bounds (x : EReal) : 0 ≤ (seg x).toInt ∧ (seg x).toInt ≤ 7 := by
  unfold seg
  generalize Ideal.fptosi 32 (Ideal.div (x + 1) ((2 : ℝ) : EReal) * ((8 : ℝ) : EReal)) = v
  unfold IntOp.maxsi IntOp.minsi
  simp only [BitVec.slt_iff_toInt_lt]
  split <;> split <;> simp_all <;> omega

/-- The segment's word is the natural number it reads as signed. -/
theorem seg_toInt (x : EReal) : (seg x).toInt = ((seg x).toNat : Int) := by
  have h := seg_bounds x
  have hl : (seg x).toNat < 2 ^ 32 := (seg x).isLt
  have e := BitVec.toInt_eq_toNat_cond (seg x)
  split at e <;> omega

/-- The segment's word is below 8. -/
theorem seg_lt (x : EReal) : (seg x).toNat < 8 := by
  have h := seg_bounds x
  have e := seg_toInt x
  omega

/-- The nodes other than `j`, in increasing order. -/
def others : Fin 6 → Fin 5 → ℝ :=
  ![![-3/5, -1/5, 1/5, 3/5, 1], ![-1, -1/5, 1/5, 3/5, 1], ![-1, -3/5, 1/5, 3/5, 1],
    ![-1, -3/5, -1/5, 3/5, 1], ![-1, -3/5, -1/5, 1/5, 1], ![-1, -3/5, -1/5, 1/5, 3/5]]

/-- One over the product of node `j` minus every other node. -/
def recip : Fin 6 → ℝ := ![-625/768, 3125/768, -3125/384, 3125/384, -3125/768, 625/768]

/-- `others` is right. -/
theorem others_eq (j : Fin 6) (i : Fin 5) : node (j.succAbove i) = others j i := by
  fin_cases j <;> fin_cases i <;> norm_num [node, others, Fin.succAbove, Fin.lt_def]

/-- `recip` is right. -/
theorem recip_eq (j : Fin 6) : (∏ i : Fin 5, (node j - node (j.succAbove i)))⁻¹ = recip j := by
  simp only [others_eq, Fin.prod_univ_five]
  fin_cases j <;> simp [node, others, recip] <;> norm_num

/-- The basis polynomial in numbers: the five differences multiplied in order, then the reciprocal. -/
theorem lag_eq (u : EReal) (j : Fin 6) : lag u j
    = (u - (others j 0 : EReal)) * (u - (others j 1 : EReal)) * (u - (others j 2 : EReal)) * (u - (others j 3 : EReal))
      * (u - (others j 4 : EReal)) * (recip j : EReal) := by
  unfold lag
  rw [recip_eq, Fin.prod_univ_five]
  simp only [others_eq]

end Cert.Lagrange

end
-- ==== Proof.Dots.lean ====
/- What the kernel's body leaves in the result's block, index by index, as sums of its 64 matrix products: the 32 steps
   of the body accumulate a running sum and a running product of the products of one slice of the weights with one slice
   of the coefficients; here each matrix product is read once, at an arbitrary input feature, and the two running
   accumulators are the sum and the product over all 64 features. -/
module

public import proofs.«01_k».proof.Proof.Gen.KernelIdeal.Frame
public import proofs.«01_k».proof.Proof.Consts
public import Idealize.ShloMosaic.Lib.Pipeline.Value
public import Idealize.ShloMosaic.Lib.Pointwise

@[expose] public section

set_option maxRecDepth 16384

noncomputable section

namespace Cert.Lagrange

open Cert.KernelIdeal Cert.KernelIdeal.Gen Idealize.ShloMosaic Idealize.ShloMosaic.TcCoe Idealize.SL.Sem

/-- Two zero offsets, spelt as a vector. -/
theorem zeros2 : (![0, 0] : Fin 2 → Nat) = fun _ => 0 := funext fun a => by match a with | ⟨0, _⟩ => rfl | ⟨1, _⟩ => rfl

/-- One matrix product of the body: 64 weights by a slice of the coefficients, read at an output and a batch row. -/
theorem dot_apply (W : FVec Ideal S64x64 .f32) (C : FVec Ideal S64x256 .f32) (o : Fin 64) (r : Fin 256) :
    matmul (F := Ideal) dot_S64x64_S64x256_S64x256_1_0_0_1_n_n none W C (constant S64x256 .f32 0x00000000#32) (ix2 o r)
      = ∑ k : Fin 64, W (ix2 o k) * C (ix2 k r) := by
  pointwise [dot_S64x64_S64x256_S64x256_1_0_0_1_n_n]

/-- The product of one step for input feature `n`: the weights of pair `n / 2`, columns `64 (n % 2) …`, by slice `n` of
    the coefficients, at output `o` and batch row `r`. -/
def part (X : S32x64x128.Idx → EReal) (C : S64x64x256.Idx → EReal) (o : Fin 64) (r : Fin 256) (n : Fin 64) : EReal :=
  ∑ k : Fin 64, X (ix3 ⟨n.val / 2, by omega⟩ o ⟨64 * (n.val % 2) + k.val, by omega⟩) * C (ix3 n k r)

/-- `part` at a natural number below 64. -/
def partN (X : S32x64x128.Idx → EReal) (C : S64x64x256.Idx → EReal) (o : Fin 64) (r : Fin 256) (n : Nat) : EReal :=
  if h : n < 64 then part X C o r ⟨n, h⟩ else 0

/-- The sum of `part` over the features is the sum of `partN` over the naturals below 64. -/
theorem sum_part (X : S32x64x128.Idx → EReal) (C : S64x64x256.Idx → EReal) (o : Fin 64) (r : Fin 256) :
    ∑ n : Fin 64, part X C o r n = ∑ n ∈ Finset.range 64, partN X C o r n := by
  rw [Finset.sum_range]
  exact Finset.sum_congr rfl fun n _ => by rw [partN, dif_pos n.isLt]

/-- And the product of `part` over the features is the product of `partN` over the naturals below 64. -/
theorem prod_part (X : S32x64x128.Idx → EReal) (C : S64x64x256.Idx → EReal) (o : Fin 64) (r : Fin 256) :
    ∏ n : Fin 64, part X C o r n = ∏ n ∈ Finset.range 64, partN X C o r n := by
  rw [Finset.prod_range]
  exact Finset.prod_congr rfl fun n _ => by rw [partN, dif_pos n.isLt]

/-- The body's product for a feature, its weights loaded at pair `g` and column `q` and its coefficients sliced at `n`,
    is `part` of that feature. -/
theorem dot_part (X : Vec Ideal S32x64x128 .f32) (C : FVec Ideal S64x64x256 .f32) (o : Fin 64) (r : Fin 256)
    (g q n : Nat) (hb : ∀ a, (![g, 0, q] : Fin 3 → Nat) a + S1x64x64.size a ≤ S32x64x128.size a)
    (hs : S64x64x256.Slices ![n, 0, 0] S1x64x256) (hn : n < 64) (hg : g = n / 2) (hq : q = 64 * (n % 2)) :
    matmul (F := Ideal) (φ₁ := .f32) (φ₂ := .f32) dot_S64x64_S64x256_S64x256_1_0_0_1_n_n none
        (shapeCast (s := S1x64x64) (α := Ideal .f32) S64x64
          (View.ld X (Rect.unit (s := S32x64x128) ![g, 0, q] S1x64x64.size hb)) shapeCasts_S1x64x64_S64x64)
        (shapeCast S64x256 (extractStridedSlice S1x64x256 ![n, 0, 0] C hs) shapeCasts_S1x64x256_S64x256)
        (constant S64x256 .f32 0x00000000#32) (ix2 o r)
      = partN X C o r n := by
  subst hg hq
  rw [dot_apply, partN, dif_pos hn]
  unfold part
  refine Finset.sum_congr rfl fun k _ => ?_
  pointwise

/-- The last step of the body at batch row `r` and output `o`: the two accumulators at the transposed index, each times
    its weight of the output. -/
theorem last_apply (a b c d : FVec Ideal S64x256 .f32) (e f : Vec Ideal S1x64 .f32) (r : Fin 256) (o : Fin 64) :
    k0_pay1 (F := Ideal) a b c d e f (ix2 r o)
      = d (ix2 o r) * e (ix2 0 o) + a (ix2 o r) * (b (ix2 o r) * c (ix2 o r)) * f (ix2 0 o) := by
  unfold k0_pay1
  pointwise

/-- The body's result block at batch row `r` and output `o`: the sum of the 64 features' products times the sum's weight,
    plus their product times the product's weight. -/
theorem out_apply (x0 : Vec Ideal S256x64 .f32) (x1 : Vec Ideal S32x64x128 .f32) (x2 x3 : Vec Ideal S1x64 .f32)
    (r : Fin 256) (o : Fin 64) :
    out0_4 (F := Ideal) x0 x1 x2 x3 (ix2 r o)
      = (∑ n : Fin 64, part x1 (k0_pay119 (F := Ideal) x0 x1 x2 x3) o r n) * x2 (ix2 0 o)
        + (∏ n : Fin 64, part x1 (k0_pay119 (F := Ideal) x0 x1 x2 x3) o r n) * x3 (ix2 0 o) := by
  have hC : k0_pay20 (F := Ideal) (k0_pay117 x0 x1 x2 x3) (k0_pay116 x0 x1 x2 x3) (k0_pay118 x0 x1 x2 x3)
      = k0_pay119 x0 x1 x2 x3 := rfl
  rw [sum_part, prod_part]
  unfold out0_4
  rw [View.canon_unit_zero zeros2, last_apply, View.ld_unit_zero (S := S1x64) zeros2, View.ld_unit_zero (S := S1x64) zeros2]
  have h0 : (Scalar.ofBits (F := Ideal) .f32 0x00000000#32) = (0 : EReal) := bits_zero
  have h1 : (Scalar.ofBits (F := Ideal) .f32 0x3F800000#32) = (1 : EReal) := bits_one
  simp only [k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53,
    k0_pay54, k0_pay55, k0_pay56, k0_pay57, k0_pay58, k0_pay59, k0_pay60, k0_pay61, k0_pay62, k0_pay63, k0_pay64,
    k0_pay65, k0_pay66, k0_pay67, k0_pay68, k0_pay69, k0_pay70, k0_pay71, k0_pay72, k0_pay73, k0_pay74, k0_pay75,
    k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106, k0_pay107,
    k0_pay108, k0_pay109, k0_pay110, k0_pay111, k0_pay112, k0_pay113, k0_pay114, k0_pay115, k0_pay120, k0_pay121,
    k0_pay122, k0_pay123, k0_pay124, k0_pay125, k0_pay126, k0_pay127, k0_pay128, k0_pay129, k0_pay130, k0_pay131,
    k0_pay132, k0_pay133, hC]
  generalize k0_pay119 (F := Ideal) x0 x1 x2 x3 = C
  simp only [addf_apply, mulf_apply, Ideal.addf_def, Ideal.mulf_def, broadcast, h0, h1]
  simp (disch := norm_num) only [dot_part]
  simp only [Finset.sum_range_succ, Finset.sum_range_zero, Finset.prod_range_succ, Finset.prod_range_zero, zero_add,
    one_mul, add_assoc, mul_assoc]

end Cert.Lagrange

end
-- ==== Proof.Coeff.lean ====
/- The coefficients the kernel's body multiplies the weights by: for each feature and batch row, the basis polynomials at the
   local coordinate, each kept in the row's segment and zero in the seven others. -/
module

public import proofs.«01_k».proof.Proof.Gen.KernelIdeal.Frame
public import proofs.«01_k».proof.Proof.Consts
public import proofs.«01_k».proof.Proof.Spec
public import proofs.«01_k».proof.Proof.Dots
public import Idealize.ShloMosaic.Lib.Pipeline.Value
public import Idealize.ShloMosaic.Lib.Pointwise

@[expose] public section

set_option maxRecDepth 16384

noncomputable section

namespace Cert.Lagrange

open Cert.KernelIdeal Cert.KernelIdeal.Gen Idealize.ShloMosaic Idealize.ShloMosaic.TcCoe Idealize.SL.Sem

variable (x0 : Vec Ideal S256x64 .f32) (x1 : Vec Ideal S32x64x128 .f32) (x2 x3 : Vec Ideal S1x64 .f32)

/-- The body's segment words. -/
theorem seg_apply (n : Fin 64) (r : Fin 256) :
    k0_pay117 (F := Ideal) x0 x1 x2 x3 (ix2 n r) = seg (x0 (ix2 r n)) := by
  unfold k0_pay117 k0_pay3 k0_pay2
  rw [View.ld_unit_zero (S := S256x64) zeros2]
  pointwise [seg, bits_two, bits_eight]
  rfl

/-- The body's local coordinates. -/
theorem loc_apply (x0 : Vec Ideal S256x64 .f32) (x1 : Vec Ideal S32x64x128 .f32) (x2 x3 : Vec Ideal S1x64 .f32)
    (n : Fin 64) (r : Fin 256) :
    k0_pay4 (F := Ideal) (View.ld x0 r0_0) (ix2 n r) = loc (x0 (ix2 r n)) := by
  have h := seg_apply x0 x1 x2 x3 n r
  unfold k0_pay117 at h
  unfold k0_pay4 k0_pay2
  rw [View.ld_unit_zero (S := S256x64) zeros2] at h ⊢
  pointwise [loc, edge, bits_two, bits_eight, h]
  rfl

/-- Selecting by an equality of words. -/
theorem select_eq {α : Type} (a b : BitVec 32) (p q : α) :
    Scalar.select (IntOp.cmpi .eq a b) p q = if a = b then p else q := by
  by_cases h : a = b
  · subst h; simp [Scalar.select, IntOp.cmpi]
  · rw [if_neg h, IntOp.cmpi, beq_false_of_ne h]
    rfl

/-- The body's eight basis values: the six basis polynomials at the local coordinate, and two zeros. -/
theorem bas_apply (n : Fin 64) (r : Fin 256) (j : Fin 8) :
    k0_pay118 (F := Ideal) x0 x1 x2 x3 (ix3 n j r) = if h : j.val < 6 then lag (loc (x0 (ix2 r n))) ⟨j.val, h⟩ else 0 := by
  have hl := loc_apply x0 x1 x2 x3 n r
  unfold k0_pay118
  generalize k0_pay4 (F := Ideal) (View.ld x0 r0_0) = L at hl
  unfold k0_pay116
  simp only [k0_pay5, k0_pay6, k0_pay7, k0_pay8, k0_pay9, k0_pay10, k0_pay11, k0_pay12, k0_pay13, k0_pay14, k0_pay15, k0_pay16, k0_pay17, k0_pay18, k0_pay19]
  pointwise [bits_zero, bits_one_coe, bits_neg_one, hl]
  obtain ⟨n1, n2, n3, n4⟩ := named_nodes
  obtain ⟨i0, i1, i2, i3, i4, i5⟩ := named_invd
  simp only [select_eq, n1, n2, n3, n4, i0, i1, i2, i3, i4, i5]
  simp only [lag_eq]
  fin_cases j <;> simp [others, recip] <;> simp only [mul_assoc]

/-- Selecting one of eight pieces of eight by where a number below 64 lies reads the pieces at the number modulo 8. -/
theorem pieces8 {α : Type} (g : Nat → α) (j s : Fin 8) :
    (if _ : 8 * j.val + s.val < 8 then g (8 * j.val + s.val) else
      if _ : 8 * j.val + s.val - 8 < 8 then g (8 * j.val + s.val - 8) else
      if _ : 8 * j.val + s.val - 8 - 8 < 8 then g (8 * j.val + s.val - 8 - 8) else
      if _ : 8 * j.val + s.val - 8 - 8 - 8 < 8 then g (8 * j.val + s.val - 8 - 8 - 8) else
      if _ : 8 * j.val + s.val - 8 - 8 - 8 - 8 < 8 then g (8 * j.val + s.val - 8 - 8 - 8 - 8) else
      if _ : 8 * j.val + s.val - 8 - 8 - 8 - 8 - 8 < 8 then g (8 * j.val + s.val - 8 - 8 - 8 - 8 - 8) else
      if _ : 8 * j.val + s.val - 8 - 8 - 8 - 8 - 8 - 8 < 8 then g (8 * j.val + s.val - 8 - 8 - 8 - 8 - 8 - 8) else
      g (8 * j.val + s.val - 8 - 8 - 8 - 8 - 8 - 8 - 8)) = g s.val := by
  split_ifs <;> exact congrArg g (by omega)

/-- The body's coefficient of point `j` and segment `s`: the basis value in the row's own segment, zero elsewhere. -/
theorem coeff_apply (n : Fin 64) (r : Fin 256) (j s : Fin 8) :
    k0_pay119 (F := Ideal) x0 x1 x2 x3 (ix3 n ⟨8 * j.val + s.val, by omega⟩ r)
     = k0_pay118 (F := Ideal) x0 x1 x2 x3 (ix3 n j r) * if seg (x0 (ix2 r n)) = BitVec.ofNat 32 s.val then 1 else 0 := by
  have hl := seg_apply x0 x1 x2 x3 n r
  unfold k0_pay119 k0_pay20
  generalize k0_pay117 (F := Ideal) x0 x1 x2 x3 = L at hl
  generalize k0_pay118 (F := Ideal) x0 x1 x2 x3 = B
  unfold k0_pay116
  pointwise [bits_zero, bits_one_coe, hl]
  simp only [select_eq, EReal.coe_one]
  exact congrArg (B (ix3 n j r) * ·) (pieces8 (fun q => if seg (x0 (ix2 r n)) = BitVec.ofNat 32 q then (1 : EReal) else 0) j s)

end Cert.Lagrange

end
-- ==== Proof.Layout.lean ====
/- The operands of the kernel's launch as the host prepares them from the arguments: the weights regrouped for the matrix
   products, and the two weight vectors as rows. -/
module

public import proofs.«01_k».proof.Proof.Gen.KernelIdeal.Frame
public import proofs.«01_k».proof.Proof.Consts
public import proofs.«01_k».proof.Proof.Spec
public import Idealize.ShloMosaic.Lib.Pipeline.Value
public import Idealize.ShloMosaic.Lib.Pointwise

@[expose] public section

set_option maxRecDepth 16384

noncomputable section

namespace Cert.Lagrange

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The weights as the host lays them out for the kernel: the six points of a segment padded to eight with zeros, the
    features in pairs. -/
def laid (W : FVec Ideal S64x64x48 .f32) : FVec Ideal S32x64x128 .f32 :=
  shapeCast S32x64x128
    (transpose S32x64x2x64 [0, 2, 1, 3]
      (shapeCast S32x2x64x64
        (pad S64x64x8x8 ![0, 0, 0, 0] ![0, 0, 2, 0] ![0, 0, 0, 0]
          (transpose S64x64x6x8 [1, 0, 3, 2] (shapeCast S64x64x8x6 W shapeCasts_S64x64x48_S64x64x8x6)
            transposes_S64x64x8x6_S64x64x6x8_1_0_3_2)
          (sitofp (F := Ideal) .f32 (constantI S_ 32 0#32)) pads_S64x64x6x8_S64x64x8x8_000_000_020_000 h_S_)
        shapeCasts_S64x64x8x8_S32x2x64x64)
      transposes_S32x2x64x64_S32x64x2x64_0_2_1_3)
    shapeCasts_S32x64x2x64_S32x64x128

/-- The kernel's weights operand is the laid out weights argument. -/
theorem V_v5 (c : Dev nD) : V m c main_v5 = laid (m ((c : Thread nD τ).loc main_arg1)) := by
  show StableHlo.after (List.flatten [hostOps0, hostOps0_1, hostOps0_2]) _ (Proc.devRef .tc main_v5) = _
  simp only [hostOps0, hostOps0_1, hostOps0_2, List.flatten_cons, List.flatten_nil, List.append_nil, List.cons_append, List.nil_append]
  after_results
  rfl

/-- Feature `n` of the laid out weights, at point `j` of eight and segment `s`: the argument's weight, or zero for the two
    points that are padding. -/
theorem laid_apply (W : FVec Ideal S64x64x48 .f32) (n o : Fin 64) (j s : Fin 8) :
    laid W (ix3 ⟨n.val / 2, by omega⟩ o ⟨64 * (n.val % 2) + (8 * j.val + s.val), by omega⟩)
      = if j.val < 6 then W (ix3 o n (Fin.ofNat 48 (s.val * 6 + j.val))) else (0 : EReal) := by
  unfold laid
  pointwise
  split_ifs with h
  · exact congrArg (fun q => W (ix3 o n q)) (Fin.ext (Nat.mod_eq_of_lt (by omega)).symm)
  · show (((0#32 : BitVec 32).toInt : ℝ) : EReal) = 0
    simp

/-- The sum's weights as the kernel reads them: one row. -/
theorem v6_apply (c : Dev nD) (o : Fin 64) :
    V m c main_v6 (ix2 0 o) = m ((c : Thread nD τ).loc main_arg2) (ix1 o) := by
  show StableHlo.after (List.flatten [hostOps0, hostOps0_1, hostOps0_2]) _ (Proc.devRef .tc main_v6) _ = _
  simp only [hostOps0, hostOps0_1, hostOps0_2, List.flatten_cons, List.flatten_nil, List.append_nil, List.cons_append, List.nil_append]
  after_results
  pointwise

/-- The product's weights as the kernel reads them: one row. -/
theorem v7_apply (c : Dev nD) (o : Fin 64) :
    V m c main_v7 (ix2 0 o) = m ((c : Thread nD τ).loc main_arg3) (ix1 o) := by
  show StableHlo.after (List.flatten [hostOps0, hostOps0_1, hostOps0_2]) _ (Proc.devRef .tc main_v7) _ = _
  simp only [hostOps0, hostOps0_1, hostOps0_2, List.flatten_cons, List.flatten_nil, List.append_nil, List.cons_append, List.nil_append]
  after_results
  pointwise

end Cert.Lagrange

end
-- ==== Proof.Block.lean ====
/- One block of the kernel's result: with the weights laid out by the host, each matrix product of the body is the
   interpolant of one feature, so the block holds the layer's entries of its 256 batch rows. -/
module

public import proofs.«01_k».proof.Proof.Coeff
public import proofs.«01_k».proof.Proof.Layout

@[expose] public section

set_option maxRecDepth 16384

noncomputable section

namespace Cert.Lagrange

open Cert.KernelIdeal Cert.KernelIdeal.Gen Idealize.ShloMosaic Idealize.ShloMosaic.TcCoe Idealize.SL.Sem

/-- A sum over 64 places as a sum over eight groups of eight. -/
theorem sum_groups (f : Fin 64 → EReal) :
    ∑ k, f k = ∑ j : Fin 8, ∑ s : Fin 8, f ⟨8 * j.val + s.val, by omega⟩ := by
  rw [← Fintype.sum_prod_type', ← (finProdFinEquiv (m := 8) (n := 8)).sum_comp]
  refine Finset.sum_congr rfl fun p _ => congrArg f (Fin.ext ?_)
  show p.2.val + 8 * p.1.val = 8 * p.1.val + p.2.val
  omega

/-- A sum over segments of which only segment `v` counts. -/
theorem sum_segments (v : BitVec 32) (hv : v.toNat < 8) (g : Nat → EReal) (b : EReal) :
    ∑ s : Fin 8, g s.val * (b * if v = BitVec.ofNat 32 s.val then 1 else 0) = g v.toNat * b := by
  rw [Finset.sum_eq_single ⟨v.toNat, hv⟩]
  · simp
  · intro s _ hs
    rw [if_neg, mul_zero, mul_zero]
    intro h
    apply hs
    apply Fin.ext
    have h2 : v.toNat = s.val % 2 ^ 32 := by rw [h, BitVec.toNat_ofNat]
    have h3 := s.isLt
    show s.val = v.toNat
    omega
  · intro h; exact absurd (Finset.mem_univ _) h

/-- The body's product of feature `n` is that feature's interpolant. -/
theorem part_eq (x0 : Vec Ideal S256x64 .f32) (W : FVec Ideal S64x64x48 .f32) (x2 x3 : Vec Ideal S1x64 .f32)
    (n o : Fin 64) (r : Fin 256) :
    part (laid W) (k0_pay119 (F := Ideal) x0 (laid W) x2 x3) o r n
      = interp (x0 (ix2 r n)) (fun q => W (ix3 o n q)) := by
  unfold part interp
  rw [sum_groups]
  simp only [laid_apply, coeff_apply, bas_apply]
  have hs := fun (j : Fin 8) (b : EReal) => sum_segments (seg (x0 (ix2 r n))) (seg_lt _)
    (fun s => if j.val < 6 then W (ix3 o n (Fin.ofNat 48 (s * 6 + j.val))) else (0 : EReal)) b
  simp only [hs]
  rw [Fin.sum_univ_castSucc, Fin.sum_univ_castSucc]
  simp [mul_comm]

/-- The body's block at batch row `r` and output `o`, from the rows of inputs, the weights argument and the two weight rows. -/
theorem block_apply (x0 : Vec Ideal S256x64 .f32) (W : FVec Ideal S64x64x48 .f32) (x2 x3 : Vec Ideal S1x64 .f32)
    (r : Fin 256) (o : Fin 64) :
    out0_4 (F := Ideal) x0 (laid W) x2 x3 (ix2 r o)
      = entry (fun n => x0 (ix2 r n)) (fun n q => W (ix3 o n q)) (x2 (ix2 0 o)) (x3 (ix2 0 o)) := by
  rw [out_apply]
  simp only [part_eq]
  rfl

end Cert.Lagrange

end
-- ==== Proof.Array.lean ====
/- The kernel's result array. Each of the four grid points writes its block of 256 batch rows of one array, the layer's
   entries of the arguments, and the four blocks cover the 1024 rows. -/
module

public import proofs.«01_k».proof.Proof.Block
public import proofs.«01_k».proof.Proof.Gen.KernelIdeal.Value

@[expose] public section

set_option maxRecDepth 16384

noncomputable section

namespace Cert.Lagrange

open Cert.KernelIdeal Cert.KernelIdeal.Gen Idealize.ShloMosaic Idealize.ShloMosaic.TcCoe Idealize.SL.Sem
open Idealize.ShloMosaic.Pipeline (Dat)

/-- The layer's whole result: at batch row `i 0` and output `i 1`, the entry of that row's inputs and that output's weights. -/
def layer (x : S1024x64.Idx → EReal) (w : S64x64x48.Idx → EReal) (s p : S64.Idx → EReal) : S1024x64.Idx → EReal :=
  fun i => entry (fun n => x (ix2 (i 0) n)) (fun n q => w (ix3 (i 1) n q)) (s (ix1 (i 1))) (p (ix1 (i 1)))

variable (m : (ℓ : Loc nD τ sig) → Buf (Elt Ideal) ℓ) (ρ : Dev nD → PrngReg)

/-- What the kernel's result is shown to hold on device `c`: the layer of the four arguments. -/
abbrev result (c : Dev nD) : Buf (Elt Ideal) ((c : Thread nD τ).loc main_v8) :=
  layer (m ((c : Thread nD τ).loc main_arg0)) (m ((c : Thread nD τ).loc main_arg1))
    (m ((c : Thread nD τ).loc main_arg2)) (m ((c : Thread nD τ).loc main_arg3))

/-- Where the blocks of the inputs and of the result lie: block `t` starts at row `256 t`. -/
theorem starts : ∀ t : Fin cfg0.N,
    (win0_0.index t 0 * win0_0.size 0 = t.val * 256 ∧ win0_0.index t 1 * win0_0.size 1 = 0)
      ∧ (win0_4.index t 0 * win0_4.size 0 = t.val * 256 ∧ win0_4.index t 1 * win0_4.size 1 = 0)
      ∧ (win0_4.xsize (grid0.coords t) 0 = 256 ∧ win0_4.xsize (grid0.coords t) 1 = 64) :=
  (by decide +kernel : ∀ t : Fin grid0.N,
    (win0_0.index t 0 * win0_0.size 0 = t.val * 256 ∧ win0_0.index t 1 * win0_0.size 1 = 0)
      ∧ (win0_4.index t 0 * win0_4.size 0 = t.val * 256 ∧ win0_4.index t 1 * win0_4.size 1 = 0)
      ∧ (win0_4.xsize (grid0.coords t) 0 = 256 ∧ win0_4.xsize (grid0.coords t) 1 = 64))

/-- The three operands that do not move start at the origin at every point. -/
theorem starts_still : ∀ t : Fin cfg0.N,
    (∀ a, win0_1.index t a * win0_1.size a = 0) ∧ (∀ a, win0_2.index t a * win0_2.size a = 0)
      ∧ ∀ a, win0_3.index t a * win0_3.size a = 0 :=
  (by decide +kernel : ∀ t : Fin grid0.N,
    (∀ a, win0_1.index t a * win0_1.size a = 0) ∧ (∀ a, win0_2.index t a * win0_2.size a = 0)
      ∧ ∀ a, win0_3.index t a * win0_3.size a = 0)

/-- A block of inputs, read at a row and a feature. -/
theorem rows_apply (c : Dev nD) (t : Fin cfg0.N) (r : Fin 256) (n : Fin 64) (b : Fin 1024) (hb : b.val = t.val * 256 + r.val) :
    iblk m c 0 t (ix2 r n) = m ((c : Thread nD τ).loc main_arg0) (ix2 b n) := by
  obtain ⟨⟨e0, e1⟩, -⟩ := starts t
  show V m c main_arg0 ((win0_0.rect t).emb (ix2 r n)) = _
  rw [V_main_arg0]
  refine congrArg _ (funext fun a => Fin.ext ?_)
  match a with
  | ⟨0, _⟩ => show win0_0.index t 0 * win0_0.size 0 + 1 * r.val = b.val; omega
  | ⟨1, _⟩ => show win0_0.index t 1 * win0_0.size 1 + 1 * n.val = n.val; omega

/-- The weights operand is the whole laid out array at every point. -/
theorem weights_eq (c : Dev nD) (t : Fin cfg0.N) :
    iblk m c 1 t = laid (m ((c : Thread nD τ).loc main_arg1)) := by
  rw [← V_v5]
  funext i
  show V m c main_v5 ((win0_1.rect t).emb i) = _
  refine congrArg _ (funext fun a => Fin.ext ?_)
  show win0_1.index t a * win0_1.size a + 1 * (i a).val = (i a).val
  rw [(starts_still t).1 a]; omega

/-- The sum's weights at every point. -/
theorem sums_apply (c : Dev nD) (t : Fin cfg0.N) (o : Fin 64) :
    iblk m c 2 t (ix2 0 o) = m ((c : Thread nD τ).loc main_arg2) (ix1 o) := by
  refine Eq.trans ?_ (v6_apply m c o)
  show V m c main_v6 ((win0_2.rect t).emb (ix2 0 o)) = _
  refine congrArg _ (funext fun a => Fin.ext ?_)
  show win0_2.index t a * win0_2.size a + 1 * ((ix2 0 o : S1x64.Idx) a).val = ((ix2 0 o : S1x64.Idx) a).val
  rw [(starts_still t).2.1 a]; omega

/-- The product's weights at every point. -/
theorem prods_apply (c : Dev nD) (t : Fin cfg0.N) (o : Fin 64) :
    iblk m c 3 t (ix2 0 o) = m ((c : Thread nD τ).loc main_arg3) (ix1 o) := by
  refine Eq.trans ?_ (v7_apply m c o)
  show V m c main_v7 ((win0_3.rect t).emb (ix2 0 o)) = _
  refine congrArg _ (funext fun a => Fin.ext ?_)
  show win0_3.index t a * win0_3.size a + 1 * ((ix2 0 o : S1x64.Idx) a).val = ((ix2 0 o : S1x64.Idx) a).val
  rw [(starts_still t).2.2 a]; omega

/-- What point `t` writes back is block `t` of the layer. -/
theorem flushed_eq (c : Dev nD) (t : Fin cfg0.N) :
    (dats m 0 c).flushed 4 t = (win0_4.blk t).view.read (Elt Ideal) (result m c) := by
  rw [Cert.KernelIdeal.Value.flushed4, weights_eq]
  obtain ⟨-, ⟨e0, e1⟩, -⟩ := starts t
  funext i
  have ht : t.val < 4 := lt_of_lt_of_eq t.isLt N_0
  obtain ⟨r, o, rfl⟩ : ∃ (r : Fin 256) (o : Fin 64), i = (ix2 r o : S256x64.Idx) :=
    ⟨i 0, i 1, funext fun a => by fin_cases a <;> rfl⟩
  show out0_4 _ (laid _) _ _ (ix2 r o) = result m c ((win0_4.rect t).emb (ix2 r o))
  have hi : (win0_4.rect t).emb (ix2 r o : S256x64.Idx) = (ix2 ⟨t.val * 256 + r.val, by omega⟩ o : S1024x64.Idx) := by
    refine funext fun a => Fin.ext ?_
    match a with
    | ⟨0, _⟩ => show win0_4.index t 0 * win0_4.size 0 + 1 * r.val = t.val * 256 + r.val; omega
    | ⟨1, _⟩ => show win0_4.index t 1 * win0_4.size 1 + 1 * o.val = o.val; omega
  rw [hi, block_apply, sums_apply, prods_apply]
  refine congrArg (fun X => entry X _ _ _) (funext fun n => ?_)
  exact rows_apply m c t r n _ rfl

/-- An index of the result array lies in point `t`'s block when its row is one of the block's 256. -/
theorem mem_blk (t : Fin cfg0.N) (i : S1024x64.Idx) :
    i ∈ ((cfg0.win 4).blk t).view.set ↔ t.val * 256 ≤ (i 0 : Nat) ∧ (i 0 : Nat) < t.val * 256 + 256 := by
  show i ∈ ((View.whole main_v8).slice (win0_4.rect t)).set ↔ _
  rw [View.set_slice_whole, Rect.mem_set_unit]
  have h1 : (i 1 : Nat) < 64 := (i 1).isLt
  obtain ⟨-, ⟨e0, e1⟩, f0, f1⟩ := starts t
  have key : (∀ a : Fin 2, win0_4.index t a * win0_4.size a ≤ (i a : Nat)
      ∧ (i a : Nat) < win0_4.index t a * win0_4.size a + win0_4.xsize (grid0.coords t) a)
      ↔ t.val * 256 ≤ (i 0 : Nat) ∧ (i 0 : Nat) < t.val * 256 + 256 := by
    rw [Fin.forall_fin_two, e0, e1, f0, f1]
    omega
  exact key

/-- The four blocks cover the result. -/
theorem cover (i : S1024x64.Idx) :
    ∃ t : Fin cfg0.N, (cfg0.win 4).flush t = true ∧ i ∈ ((cfg0.win 4).blk t).view.set := by
  have h0 : (i 0 : Nat) < 1024 := (i 0).isLt
  have hN : cfg0.N = 4 := N_0
  refine ⟨⟨(i 0 : Nat) / 256, by omega⟩, flush0_4 _, ?_⟩
  rw [mem_blk]
  dsimp only
  omega

/-- The kernel's run: the result holds the layer of the arguments, and the arguments are as launched. -/
theorem run_kernel : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans
      ((dats m 0 c).arrAt_eq_of_cover 4 (result m c) (fun t _ => flushed_eq m c t) cover), (h c).2⟩)
    (Cert.KernelIdeal.Value.run_blocks m ρ)

end Cert.Lagrange

end
-- ==== Proof.RefBin.lean ====
/- The reference's histogram: each input's segment, and its local coordinate in that segment. -/
module

public import proofs.«01_k».proof.Proof.Consts
public import proofs.«01_k».proof.Proof.Spec
public import proofs.«01_k».proof.Proof.Gen.ReferenceIdeal.Read
public import Idealize.ShloMosaic.Lib.Pointwise

@[expose] public section

set_option maxRecDepth 16384

noncomputable section

namespace Cert.Lagrange

open Cert.ReferenceIdeal Cert.ReferenceIdeal.Read Idealize.ShloMosaic Idealize.ShloMosaic.TcCoe Idealize.SL.Sem

/-- Clipping to `[0, 7]` by two comparisons is clipping by a minimum and a maximum. -/
theorem clip_eq (a : BitVec 32) :
    Scalar.select (IntOp.cmpi .sge (Scalar.select (IntOp.cmpi .sle a 7#32) a 7#32) 0#32)
      (Scalar.select (IntOp.cmpi .sle a 7#32) a 7#32) 0#32 = IntOp.maxsi (IntOp.minsi a 7#32) 0#32 := by
  unfold Scalar.select IntOp.cmpi IntOp.maxsi IntOp.minsi
  have h1 : ∀ c : Bool, (BitVec.ofBool c = 1) ↔ c = true := by decide
  simp only [h1, BitVec.slt_eq_decide, BitVec.sle_eq_decide, decide_eq_true_eq]
  have h7 : (7#32 : BitVec 32).toInt = 7 := rfl
  have h0 : (0#32 : BitVec 32).toInt = 0 := rfl
  simp only [h7, h0]
  by_cases ha : a.toInt ≤ 7
  · rw [if_pos ha]
    by_cases hb : a.toInt < 7
    · rw [if_pos hb]
      by_cases hc : 0 ≤ a.toInt
      · rw [if_pos hc]
        by_cases hd : 0 < a.toInt
        · rw [if_pos hd]
        · rw [if_neg hd]; exact BitVec.eq_of_toInt_eq (by rw [h0]; omega)
      · rw [if_neg hc, if_neg (by omega)]
    · have e : a = 7#32 := BitVec.eq_of_toInt_eq (by rw [h7]; omega)
      subst e; rfl
  · have hb : ¬ a.toInt < 7 := fun h => ha (by omega)
    simp only [if_neg ha, if_neg hb]
    rfl

/-- The next segment's number. -/
theorem seg_succ (x : EReal) :
    ((((seg x + 1#32).toInt : ℝ)) : EReal) = ((((seg x).toInt : ℝ)) : EReal) + 1 := by
  have h := seg_bounds x
  have e : (seg x + 1#32).toInt = (seg x).toInt + 1 := by
    rw [BitVec.toInt_add]
    have h1 : (1#32 : BitVec 32).toInt = 1 := rfl
    rw [h1, Int.bmod_def]
    omega
  rw [e]
  push_cast
  rfl

/-- The reference's clipped bin is the input's segment. -/
theorem bin_apply (x : FVec Ideal S1024x64 .f32) (b : Fin 1024) (n : Fin 64) :
    val_main_v12 (F := Ideal) x (ix2 b n) = seg (x (ix2 b n)) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1,
    val_main_c, val_main_c_2, val_main_c_3, val_main_c_4, val_main_call0_v0, val_main_call0_v1, val_main_call1_v0, val_main_call1_v1]
  simp only [id_eq, constantI]
  rw [clip_eq, bits_two, bits_eight]
  rfl

/-- The reference's local coordinate. -/
theorem loc_ref (x : FVec Ideal S1024x64 .f32) (b : Fin 1024) (n : Fin 64) :
    val_main_v38 (F := Ideal) x (ix2 b n) = loc (x (ix2 b n)) := by
  pointwise [val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v21, val_main_v20, val_main_v19, val_main_v18, val_main_v14, val_main_v13, val_main_c_5, val_main_cst_7, val_main_cst_8,
    val_main_cst_9, val_main_cst_10, val_main_cst_11, val_main_cst_12, val_main_cst_13, val_main_cst_14, bin_apply]
  rw [bits_two, bits_eight]
  have h : (FloatOps.sitofp (F := Ideal) .f32 (IntOp.addi (seg (x (ix2 b n))) 1#32))
      = (((seg (x (ix2 b n))).toInt : ℝ) : EReal) + 1 := seg_succ _
  rw [h]
  rfl

end Cert.Lagrange

end
-- ==== Proof.RefBasis.lean ====
/- The reference's six basis polynomials: its loop multiplies by one difference and divides by one denominator at a time;
   the result is the basis polynomial at the local coordinate. -/
module

public import proofs.«01_k».proof.Proof.RefBin

@[expose] public section

set_option maxRecDepth 16384

noncomputable section

namespace Cert.Lagrange

open Cert.ReferenceIdeal Cert.ReferenceIdeal.Gen Cert.ReferenceIdeal.Read Idealize.ShloMosaic Idealize.ShloMosaic.TcCoe Idealize.SL.Sem

/-- The reference's evenly spaced points are the nodes. -/
theorem nodes_apply (m : Fin 6) : val_main_v65 (F := Ideal) (ix1 m) = ((node m : ℝ) : EReal) := by
  pointwise [val_main_v65, val_main_call4_v15, val_main_call4_v16, val_main_call4_v14, val_main_call4_v13, val_main_call4_v12,
    val_main_call4_v11, val_main_call4_v10, val_main_call4_v9, val_main_call4_v8, val_main_call4_v7, val_main_call4_v6,
    val_main_call4_v5, val_main_call4_v4, val_main_call4_v1, val_main_call4_v0,
    val_main_call4_cst_0, val_main_call4_cst_1, val_main_cst_21, val_main_cst_22]
  have hs : (FloatOps.sitofp (F := Ideal) .f32 (BitVec.ofNat 32 m.val)) = ((m.val : ℝ) : EReal) := by
    show (((BitVec.ofNat 32 m.val).toInt : ℝ) : EReal) = _
    have e : (BitVec.ofNat 32 m.val).toInt = (m.val : Int) := by
      rw [BitVec.toInt_eq_toNat_cond, BitVec.toNat_ofNat]; omega
    rw [e]; push_cast; rfl
  have h1 : id (constant (F := Ideal) S_ .f32 1065353216#32) ix0 = ((1 : ℝ) : EReal) := bits_one_coe
  have h2 : id (constant (F := Ideal) S_ .f32 3212836864#32) ix0 = ((-1 : ℝ) : EReal) := bits_neg_one
  rw [hs, h1, h2, bits_five, Ideal.div_coe (by norm_num)]
  split_ifs with h
  · have e : ((-1 : ℝ) : EReal) * (1 - ((m.val : ℝ) : EReal) * ((1 / 5 : ℝ) : EReal)) + ((1 : ℝ) : EReal) * (((m.val : ℝ) : EReal) * ((1 / 5 : ℝ) : EReal))
        = ((-1 * (1 - (m.val : ℝ) * (1 / 5)) + 1 * ((m.val : ℝ) * (1 / 5)) : ℝ) : EReal) := by
      push_cast; rfl
    rw [e]
    refine congrArg _ ?_
    unfold node
    ring
  · have e : m = 5 := by omega
    subst e
    refine congrArg _ ?_
    norm_num [node]

/-- One slice of the points fits. -/
theorem fits_node : ∀ m : Fin 6, S6.Slices ![m.val] S1 := by decide

/-- The `m`-th of six points, as the reference takes it. -/
def point (X : FVec Ideal S6 .f32) (m : Fin 6) : FVec Ideal S_ .f32 :=
  shapeCast _ (extractStridedSlice S1 ![m.val] X (fits_node m)) shapeCasts_S1_S_

/-- One step of the reference's inner loop for basis `j`: the running array times the difference to point `m`, divided by the
    distance of point `j` from it. -/
def step (u : FVec Ideal S1024x64 .f32) (X : FVec Ideal S6 .f32) (j m : Fin 6) (a : FVec Ideal S1024x64 .f32) :
    FVec Ideal S1024x64 .f32 :=
  Host.divf (mulf a (subf u (broadcastInDim S1024x64 ![] bcast_S_S1024x64 (point X m))))
    (broadcastInDim S1024x64 ![] bcast_S_S1024x64 (subf (point X j) (point X m)))

/-- The inner loop: five steps from one. -/
def steps (u : FVec Ideal S1024x64 .f32) (X : FVec Ideal S6 .f32) (j : Fin 6) (o : FVec Ideal S1024x64 .f32) : FVec Ideal S1024x64 .f32 :=
  step u X j (j.succAbove 4) (step u X j (j.succAbove 3) (step u X j (j.succAbove 2) (step u X j (j.succAbove 1)
    (step u X j (j.succAbove 0) o))))

/-- A point read. -/
theorem point_apply (X : FVec Ideal S6 .f32) (m : Fin 6) : point X m ix0 = X (ix1 m) := by
  pointwise [point]

/-- A step read at a batch row and a feature. -/
theorem step_apply (u : FVec Ideal S1024x64 .f32) (X : FVec Ideal S6 .f32) (j m : Fin 6) (a : FVec Ideal S1024x64 .f32)
    (b : Fin 1024) (n : Fin 64) :
    step u X j m a (ix2 b n) = Ideal.div (a (ix2 b n) * (u (ix2 b n) - X (ix1 m))) (X (ix1 j) - X (ix1 m)) := by
  pointwise [step, point_apply]

/-- Dividing after each of five multiplications is multiplying by the five differences and once by the product of the
    reciprocals. -/
theorem divide_five (a0 a1 a2 a3 a4 : EReal) (d : Fin 5 → ℝ) (hd : ∀ i, d i ≠ 0) :
    Ideal.div (Ideal.div (Ideal.div (Ideal.div (Ideal.div (1 * a0) ((d 0 : ℝ) : EReal) * a1) ((d 1 : ℝ) : EReal) * a2)
      ((d 2 : ℝ) : EReal) * a3) ((d 3 : ℝ) : EReal) * a4) ((d 4 : ℝ) : EReal)
      = a0 * a1 * a2 * a3 * a4 * (((∏ i, d i)⁻¹ : ℝ) : EReal) := by
  rw [Ideal.div_coe (hd 0), Ideal.div_coe (hd 1), Ideal.div_coe (hd 2), Ideal.div_coe (hd 3), Ideal.div_coe (hd 4)]
  have e : (∏ i, d i)⁻¹ = 1 / d 0 * (1 / d 1) * (1 / d 2) * (1 / d 3) * (1 / d 4) := by
    rw [Fin.prod_univ_five]
    field_simp
  rw [e, one_mul]
  push_cast
  ac_rfl

/-- No two nodes meet. -/
theorem node_sub_ne (j : Fin 6) (i : Fin 5) : node j - node (j.succAbove i) ≠ 0 := by
  rw [others_eq]
  fin_cases j <;> fin_cases i <;> norm_num [node, others]

/-- The inner loop from ones, over the nodes, is the basis polynomial. -/
theorem steps_apply (u : FVec Ideal S1024x64 .f32) (X : FVec Ideal S6 .f32) (j : Fin 6) (o : FVec Ideal S1024x64 .f32)
    (hX : ∀ m, X (ix1 m) = ((node m : ℝ) : EReal)) (b : Fin 1024) (n : Fin 64) (ho : o (ix2 b n) = 1) :
    steps u X j o (ix2 b n) = lag (u (ix2 b n)) j := by
  simp only [steps, step_apply, hX, ho, ← EReal.coe_sub]
  rw [divide_five _ _ _ _ _ (fun i => node j - node (j.succAbove i)) (node_sub_ne j)]
  unfold lag
  rw [Fin.prod_univ_five, Fin.prod_univ_five]

/-- The array of ones that each basis starts from. -/
theorem ones_apply (b : Fin 1024) (n : Fin 64) :
    broadcastInDim S1024x64 ![] bcast_S_S1024x64 (constant (F := Ideal) S_ .f32 0x3F800000#32) (ix2 b n) = 1 := by
  pointwise

/-- The reference's basis arrays, one for each point. -/
def basis (x : FVec Ideal S1024x64 .f32) : Fin 6 → FVec Ideal S1024x64 .f32 :=
  ![val_main_v127 (F := Ideal) x, val_main_v194 (F := Ideal) x, val_main_v261 (F := Ideal) x, val_main_v328 (F := Ideal) x,
    val_main_v395 (F := Ideal) x, val_main_v462 (F := Ideal) x]

/-- Each of them is the inner loop from ones. -/
theorem basis_eq (x : FVec Ideal S1024x64 .f32) (j : Fin 6) :
    basis x j = steps (val_main_v38 (F := Ideal) x) (val_main_v65 (F := Ideal)) j
      (broadcastInDim S1024x64 ![] bcast_S_S1024x64 (constant S_ .f32 0x3F800000#32)) := by
  fin_cases j <;> rfl

/-- The reference's basis array of point `j` holds the basis polynomial at the local coordinate. -/
theorem basis_apply (x : FVec Ideal S1024x64 .f32) (j : Fin 6) (b : Fin 1024) (n : Fin 64) :
    basis x j (ix2 b n) = lag (loc (x (ix2 b n))) j := by
  rw [basis_eq, steps_apply _ _ _ _ nodes_apply b n (ones_apply b n), loc_ref]

end Cert.Lagrange

end
-- ==== Proof.RefIndex.lean ====
/- The reference's index arithmetic: which feature and which of the 48 weights each place of its flattened gather reads. -/
module

public import proofs.«01_k».proof.Proof.RefBin

@[expose] public section

set_option maxRecDepth 16384

noncomputable section

namespace Cert.Lagrange

open Cert.ReferenceIdeal Cert.ReferenceIdeal.Read Idealize.ShloMosaic Idealize.ShloMosaic.TcCoe Idealize.SL.Sem

/-- A word below `2^31` is not negative. -/
theorem word_msb (k : Nat) (hk : k < 2 ^ 31) : (BitVec.ofNat 32 k).msb = false := by
  rw [BitVec.msb_eq_decide, BitVec.toNat_ofNat]
  simp only [decide_eq_false_iff_not, not_le]
  omega

/-- A division by a positive word below `2^31` is no corner case. -/
theorem word_corner (k d : Nat) (hd : 0 < d) (hd' : d < 2 ^ 31) :
    ¬ IntOp.SDivCorner (BitVec.ofNat 32 k) (BitVec.ofNat 32 d) := by
  have e : (BitVec.ofNat 32 d).toNat = d := by rw [BitVec.toNat_ofNat, Nat.mod_eq_of_lt (by omega)]
  rintro (h | ⟨-, h⟩)
  · rw [h] at e
    have e0 : (0 : BitVec 32).toNat = 0 := rfl
    omega
  · rw [h] at e
    have e1 : (-1 : BitVec 32).toNat = 4294967295 := rfl
    omega

/-- A word below `2^31` is not less than zero. -/
theorem word_nonneg (k : Nat) (hk : k < 2 ^ 31) : IntOp.cmpi .slt (BitVec.ofNat 32 k) 0#32 = 0#1 := by
  unfold IntOp.cmpi
  simp only []
  rw [BitVec.slt_zero_eq_msb, word_msb k hk]
  rfl

/-- A select on a bit that is zero takes the second value. -/
theorem select_zero' {α : Type} (a b : α) : Scalar.select 0#1 a b = b := rfl

/-- Floor division by six, as the reference spells it: the quotient, less one where the signs differ and six does not divide. -/
theorem floor_six (k : Nat) (hk : k < 2 ^ 31) (q : BitVec 32) :
    Scalar.select
      (IntOp.andi
        (IntOp.cmpi .ne (if BitVec.ofNat 32 k = 0 then (0 : BitVec 32) else if (BitVec.ofNat 32 k).msb = true then -1 else 1)
          (if (6#32 : BitVec 32) = 0 then (0 : BitVec 32) else if (6#32 : BitVec 32).msb = true then -1 else 1))
        (IntOp.cmpi .ne (BitVec.ofNat 32 (k % 6)) 0#32)) q (BitVec.ofNat 32 (k / 6)) = BitVec.ofNat 32 (k / 6) := by
  rw [word_msb k hk]
  by_cases h0 : k = 0
  · subst h0; rfl
  · have h1 : ¬ BitVec.ofNat 32 k = 0 := fun h => by
      have e : (BitVec.ofNat 32 k).toNat = k := by rw [BitVec.toNat_ofNat, Nat.mod_eq_of_lt (by omega)]
      rw [h] at e
      have e0 : (0 : BitVec 32).toNat = 0 := rfl
      omega
    rw [if_neg h1, if_neg (by decide)]
    have h2 : ∀ z : BitVec 1, IntOp.andi (IntOp.cmpi .ne (1 : BitVec 32)
        (if (6#32 : BitVec 32) = 0 then (0 : BitVec 32) else if (6#32 : BitVec 32).msb = true then -1 else 1)) z = 0#1 := by decide
    rw [h2]
    rfl

/-- Signed division of words below `2^31` is division of naturals. -/
theorem word_div (k d : Nat) (hk : k < 2 ^ 31) (hd : 0 < d) (hd' : d < 2 ^ 31) :
    IntOp.divsi .host (BitVec.ofNat 32 k) (BitVec.ofNat 32 d) = BitVec.ofNat 32 (k / d) := by
  unfold IntOp.divsi
  rw [if_neg, BitVec.sdiv_eq, word_msb k hk, word_msb d hd']
  · apply BitVec.eq_of_toNat_eq
    have h := Nat.div_le_self k d
    show (BitVec.ofNat 32 k / BitVec.ofNat 32 d).toNat = _
    rw [BitVec.toNat_udiv, BitVec.toNat_ofNat, BitVec.toNat_ofNat, BitVec.toNat_ofNat,
      Nat.mod_eq_of_lt (by omega), Nat.mod_eq_of_lt (by omega), Nat.mod_eq_of_lt (by omega)]
  · exact word_corner k d hd hd'

/-- Signed remainder of words below `2^31` is remainder of naturals. -/
theorem word_rem (k d : Nat) (hk : k < 2 ^ 31) (hd : 0 < d) (hd' : d < 2 ^ 31) :
    IntOp.remsi .host (BitVec.ofNat 32 k) (BitVec.ofNat 32 d) = BitVec.ofNat 32 (k % d) := by
  unfold IntOp.remsi
  rw [if_neg, BitVec.srem_eq, word_msb k hk, word_msb d hd']
  · apply BitVec.eq_of_toNat_eq
    have h := Nat.mod_le k d
    show (BitVec.ofNat 32 k % BitVec.ofNat 32 d).toNat = _
    have h1 : k % 2 ^ 32 = k := Nat.mod_eq_of_lt (by omega)
    have h2 : d % 2 ^ 32 = d := Nat.mod_eq_of_lt (by omega)
    have h3 : k % d % 2 ^ 32 = k % d := Nat.mod_eq_of_lt (by omega)
    rw [BitVec.toNat_umod, BitVec.toNat_ofNat, BitVec.toNat_ofNat, BitVec.toNat_ofNat, h1, h2, h3]
  · exact word_corner k d hd hd'

/-- The reference's quotient by six of place `k`. -/
theorem div_apply (k : Fin 393216) : val_main_v46 (F := Ideal) (ix1 k) = BitVec.ofNat 32 (k.val / 6) := by
  pointwise [val_main_v46, val_main_v45, val_main_call2_v0, val_main_call2_v1, val_main_call2_v2, val_main_call2_v3, val_main_call2_v4, val_main_call2_v5,
    val_main_call2_v6, val_main_call2_v7, val_main_call2_v8, val_main_call2_v9, val_main_call2_v10, val_main_call2_v11,
    val_main_call2_v12, val_main_call2_v13, val_main_call2_c, val_main_call2_c_0, val_main_c_15, signi]
  have hk := k.isLt
  simp only [id_eq, constantI]
  rw [word_div k.val 6 (by omega) (by omega) (by omega), word_rem k.val 6 (by omega) (by omega) (by omega)]
  exact floor_six k.val (by omega) _

/-- The feature that place `k` of the gather reads. -/
theorem feature_apply (k : Fin 393216) : val_main_v53 (F := Ideal) (ix1 k) = BitVec.ofNat 32 (k.val / 6 % 64) := by
  pointwise [val_main_v53, val_main_v52, val_main_v51, val_main_v50, val_main_v49, val_main_c_17, val_main_c_18, val_main_v47, val_main_call3_v0, val_main_call3_v1, val_main_call3_v2, val_main_call3_v3, val_main_call3_v4, val_main_call3_v5,
    val_main_call3_v6, val_main_call3_v7, val_main_call3_v8, val_main_call3_v9, val_main_call3_v10, val_main_call3_v11,
    val_main_call3_v12, val_main_call3_v13, val_main_call3_v14, val_main_call3_c, val_main_call3_c_0, val_main_call3_c_1, val_main_call3_c_2, val_main_call3_c_3, val_main_c_16, div_apply]
  have hk := k.isLt
  have h64 : Scalar.select (IntOp.cmpi .eq 64#32 0#32) 1#32 64#32 = (64#32 : BitVec 32) := rfl
  have hz : IntOp.cmpi .ne (0#1) (IntOp.cmpi .slt (64#32) 0#32) = 0#1 := rfl
  have ha : ∀ z : BitVec 1, IntOp.andi 0#1 z = 0#1 := by decide
  simp only [id_eq, constantI, h64]
  rw [word_rem (k.val / 6) 64 (by omega) (by omega) (by omega)]
  simp only [word_nonneg (k.val / 6 % 64) (by omega), hz, ha, select_zero']

/-- The weight that the place of row `b`, feature `n` and point `j` reads: the `j`-th of its segment's six. -/
theorem weight_apply (x : FVec Ideal S1024x64 .f32) (b : Fin 1024) (n : Fin 64) (j : Fin 6) (k : Fin 393216)
    (hk : k.val = (b.val * 64 + n.val) * 6 + j.val) :
    val_main_v58 (F := Ideal) x (ix1 k) = BitVec.ofNat 32 ((seg (x (ix2 b n))).toNat * 6 + j.val) := by
  pointwise [val_main_v58, val_main_v57, val_main_v56, val_main_v55, val_main_v54, val_main_c_19, val_main_c_20, val_main_v48,
    val_main_v44, val_main_v43, val_main_v42, val_main_v41, val_main_v40, val_main_v39, val_main_v17, val_main_v16, val_main_v15, val_main_c_6, bin_apply]
  have hk' := k.isLt
  have hs := seg_lt (x (ix2 b n))
  have hb : (⟨k.val / 6 / 64, by omega⟩ : Fin 1024) = b := Fin.ext (by show k.val / 6 / 64 = b.val; omega)
  have hn : (⟨k.val / 6 % 64, by omega⟩ : Fin 64) = n := Fin.ext (by show k.val / 6 % 64 = n.val; omega)
  have hj : k.val % 6 = j.val := by omega
  rw [hb, hn, hj]
  have e : IntOp.addi (IntOp.muli (seg (x (ix2 b n))) 6#32) (BitVec.ofNat 32 j.val)
      = BitVec.ofNat 32 ((seg (x (ix2 b n))).toNat * 6 + j.val) := by
    rw [BitVec.ofNat_add, BitVec.ofNat_mul, BitVec.ofNat_toNat, BitVec.setWidth_eq]
    rfl
  rw [e, word_nonneg _ (by omega)]
  rfl

end Cert.Lagrange

end
-- ==== Proof.RefGather.lean ====
/- The reference's gather: the weights, arranged by batch row, feature, output and point. -/
module

public import proofs.«01_k».proof.Proof.RefIndex

@[expose] public section

set_option maxRecDepth 16384

noncomputable section

namespace Cert.Lagrange

open Cert.ReferenceIdeal Cert.ReferenceIdeal.Read Idealize.ShloMosaic Idealize.ShloMosaic.TcCoe Idealize.SL.Sem

/-- The pair of positions of place `k`: its feature first. -/
theorem pair0_apply (x : FVec Ideal S1024x64 .f32) (k : Fin 393216) :
    val_main_v61 (F := Ideal) x (ix2 k 0) = BitVec.ofNat 32 (k.val / 6 % 64) := by
  pointwise [val_main_v61, val_main_v59, val_main_v60, feature_apply]

/-- The pair of positions of place `k`: its weight second. -/
theorem pair1_apply (x : FVec Ideal S1024x64 .f32) (k : Fin 393216) :
    val_main_v61 (F := Ideal) x (ix2 k 1) = val_main_v58 (F := Ideal) x (ix1 k) := by
  pointwise [val_main_v61, val_main_v59, val_main_v60, feature_apply]

/-- The gather at an output and a place whose pair of positions is `n`, `q`, both inside the array: the operand there. -/
theorem gather_apply (w : FVec Ideal S64x64x48 .f32) (idx : IVec S393216x2 32) (o : Fin 64) (k : Fin 393216) (n : Fin 64) (q : Fin 48)
    (h0 : idx (ix2 k 0) = BitVec.ofNat 32 n.val) (h1 : idx (ix2 k 1) = BitVec.ofNat 32 q.val) :
    Host.gather gather_S64x64x48_S393216x2_S64x393216_0_12_n_n_12_1_6411 w idx (ix2 o k) = w (ix3 o n q) := by
  unfold Host.gather
  refine congrArg w (funext fun a => Fin.ext ?_)
  show gather_S64x64x48_S393216x2_S64x393216_0_12_n_n_12_1_6411.start (ix2 o k) idx a
    + gather_S64x64x48_S393216x2_S64x393216_0_12_n_n_12_1_6411.batchCoord (ix2 o k) a
    + gather_S64x64x48_S393216x2_S64x393216_0_12_n_n_12_1_6411.offCoord (ix2 o k) a = _
  rw [GatherDims.batchCoord_eq_zero _ _ _ List.not_mem_nil]
  have hn : (BitVec.ofNat 32 n.val).toInt.toNat = n.val := by
    rw [BitVec.toInt_eq_toNat_of_msb (word_msb _ (by omega)), BitVec.toNat_ofNat]; omega
  have hq : (BitVec.ofNat 32 q.val).toInt.toNat = q.val := by
    rw [BitVec.toInt_eq_toNat_of_msb (word_msb _ (by omega)), BitVec.toNat_ofNat]; omega
  match a with
  | ⟨0, _⟩ =>
    have hs : gather_S64x64x48_S393216x2_S64x393216_0_12_n_n_12_1_6411.start (ix2 o k) idx (0 : Fin 3) = 0 := by
      unfold GatherDims.start
      exact dif_neg (show (0 : Fin 3) ∉ ([1, 2] : List (Fin 3)) by decide)
    have ho : gather_S64x64x48_S393216x2_S64x393216_0_12_n_n_12_1_6411.offCoord (ix2 o k) (0 : Fin 3) = o.val := by
      unfold GatherDims.offCoord
      rw [dif_pos ((GatherDims.mem_sKept _ _).mpr
        ⟨show (0 : Fin 3) ∉ ([1, 2] : List (Fin 3)) by decide, show (0 : Fin 3) ∉ ([] : List (Fin 3)) by decide⟩)]
      rfl
    rw [Nat.add_zero]
    exact (congrArg₂ (· + ·) hs ho).trans (Nat.zero_add _)
  | ⟨1, _⟩ =>
    have hm : (1 : Fin 3) ∈ gather_S64x64x48_S393216x2_S64x393216_0_12_n_n_12_1_6411.startIndexMap :=
      (show (1 : Fin 3) ∈ ([1, 2] : List (Fin 3)) by decide)
    have hs : gather_S64x64x48_S393216x2_S64x393216_0_12_n_n_12_1_6411.start (ix2 o k) idx (1 : Fin 3) = n.val := by
      unfold GatherDims.start
      rw [dif_pos hm]
      have hi : gather_S64x64x48_S393216x2_S64x393216_0_12_n_n_12_1_6411.siIdx (ix2 o k)
          ⟨List.idxOf (1 : Fin 3) gather_S64x64x48_S393216x2_S64x393216_0_12_n_n_12_1_6411.startIndexMap,
            List.idxOf_lt_length_iff.2 hm⟩ = ix2 k 0 := by
        funext b; refine Fin.ext ?_
        match b with
        | ⟨0, _⟩ => rfl
        | ⟨1, _⟩ => rfl
      rw [hi, h0, hn]
      show min n.val 63 = n.val
      omega
    rw [GatherDims.offCoord_eq_zero _ _ _ (fun h => ((GatherDims.mem_sKept _ _).mp h).1
      (show (1 : Fin 3) ∈ ([1, 2] : List (Fin 3)) by decide))]
    exact hs
  | ⟨2, _⟩ =>
    have hm : (2 : Fin 3) ∈ gather_S64x64x48_S393216x2_S64x393216_0_12_n_n_12_1_6411.startIndexMap :=
      (show (2 : Fin 3) ∈ ([1, 2] : List (Fin 3)) by decide)
    have hs : gather_S64x64x48_S393216x2_S64x393216_0_12_n_n_12_1_6411.start (ix2 o k) idx (2 : Fin 3) = q.val := by
      unfold GatherDims.start
      rw [dif_pos hm]
      have hi : gather_S64x64x48_S393216x2_S64x393216_0_12_n_n_12_1_6411.siIdx (ix2 o k)
          ⟨List.idxOf (2 : Fin 3) gather_S64x64x48_S393216x2_S64x393216_0_12_n_n_12_1_6411.startIndexMap,
            List.idxOf_lt_length_iff.2 hm⟩ = ix2 k 1 := by
        funext b; refine Fin.ext ?_
        match b with
        | ⟨0, _⟩ => rfl
        | ⟨1, _⟩ => rfl
      rw [hi, h1, hq]
      show min q.val 47 = q.val
      omega
    rw [GatherDims.offCoord_eq_zero _ _ _ (fun h => ((GatherDims.mem_sKept _ _).mp h).1
      (show (2 : Fin 3) ∈ ([1, 2] : List (Fin 3)) by decide))]
    exact hs

/-- The gathered weight at batch row `b`, feature `n`, output `o` and point `j`: the `j`-th weight of the input's segment. -/
theorem gathered_apply (x : FVec Ideal S1024x64 .f32) (w : FVec Ideal S64x64x48 .f32) (b : Fin 1024) (n o : Fin 64) (j : Fin 6) :
    val_main_v64 (F := Ideal) x w (ix4 b n o j) = w (ix3 o n (Fin.ofNat 48 ((seg (x (ix2 b n))).toNat * 6 + j.val))) := by
  have hs := seg_lt (x (ix2 b n))
  have hk : (b.val * 64 + n.val) * 6 + j.val < 393216 := by omega
  have h : val_main_v64 (F := Ideal) x w (ix4 b n o j)
      = val_main_v62 (F := Ideal) x w (ix2 o ⟨(b.val * 64 + n.val) * 6 + j.val, hk⟩) := by
    pointwise [val_main_v64, val_main_v63]
    exact congrArg (fun q => val_main_v62 (F := Ideal) x w (ix2 o q))
      (Fin.ext (by show b.val * 384 + n.val * 6 + j.val = (b.val * 64 + n.val) * 6 + j.val; omega))
  rw [h]
  refine gather_apply w _ o _ n _ ?_ ?_
  · rw [pair0_apply]
    exact congrArg (BitVec.ofNat 32) (by show ((b.val * 64 + n.val) * 6 + j.val) / 6 % 64 = n.val; omega)
  · rw [pair1_apply, weight_apply x b n j _ rfl]
    exact congrArg (BitVec.ofNat 32) (Nat.mod_eq_of_lt (by omega)).symm

end Cert.Lagrange

end
-- ==== Proof.RefTotal.lean ====
/- The reference's result: the interpolants as one array, their sum and their product over the features, and the weighted
   total. -/
module

public import proofs.«01_k».proof.Proof.RefBasis
public import proofs.«01_k».proof.Proof.RefGather

@[expose] public section

set_option maxRecDepth 16384

noncomputable section

namespace Cert.Lagrange

open Cert.ReferenceIdeal Cert.ReferenceIdeal.Gen Cert.ReferenceIdeal.Read Idealize.ShloMosaic Idealize.ShloMosaic.TcCoe Idealize.SL.Sem

/-- One slice of the gathered weights fits. -/
theorem fits_point : ∀ j : Fin 6, S1024x64x64x6.Slices ![0, 0, 0, j.val] S1024x64x64x1 := by decide

/-- One slice of the interpolants fits. -/
theorem fits_feature : ∀ n : Fin 64, S1024x64x64.Slices ![0, n.val, 0] S1024x1x64 := by decide

/-- One step of the outer loop: basis `j` times the weights of point `j`, added to the running array. -/
def gain (B : FVec Ideal S1024x64 .f32) (W : FVec Ideal S1024x64x64x6 .f32) (j : Fin 6) (a : FVec Ideal S1024x64x64 .f32) :
    FVec Ideal S1024x64x64 .f32 :=
  addf a (mulf (broadcastInDim S1024x64x64 ![0, 1, 2] bcast_S1024x64x1_S1024x64x64_0_1_2
      (broadcastInDim S1024x64x1 ![0, 1] bcast_S1024x64_S1024x64x1_0_1 B))
    (shapeCast _ (extractStridedSlice S1024x64x64x1 ![0, 0, 0, j.val] W (fits_point j)) shapeCasts_S1024x64x64x1_S1024x64x64))

/-- A step of the outer loop read at an index. -/
theorem gain_apply (B : FVec Ideal S1024x64 .f32) (W : FVec Ideal S1024x64x64x6 .f32) (j : Fin 6) (a : FVec Ideal S1024x64x64 .f32)
    (b : Fin 1024) (n o : Fin 64) :
    gain B W j a (ix3 b n o) = a (ix3 b n o) + B (ix2 b n) * W (ix4 b n o j) := by
  pointwise [gain]

/-- The reference's array of interpolants is its outer loop of six steps from zeros. -/
theorem interp_eq (x : FVec Ideal S1024x64 .f32) (w : FVec Ideal S64x64x48 .f32) :
    val_main_v468 (F := Ideal) x w
      = gain (basis x 5) (val_main_v64 (F := Ideal) x w) 5 (gain (basis x 4) (val_main_v64 (F := Ideal) x w) 4
        (gain (basis x 3) (val_main_v64 (F := Ideal) x w) 3 (gain (basis x 2) (val_main_v64 (F := Ideal) x w) 2
        (gain (basis x 1) (val_main_v64 (F := Ideal) x w) 1 (gain (basis x 0) (val_main_v64 (F := Ideal) x w) 0
          (val_main_v66 (F := Ideal))))))) := rfl

/-- The reference's array at batch row `b`, feature `n` and output `o` holds that feature's interpolant. -/
theorem interp_apply (x : FVec Ideal S1024x64 .f32) (w : FVec Ideal S64x64x48 .f32) (b : Fin 1024) (n o : Fin 64) :
    val_main_v468 (F := Ideal) x w (ix3 b n o) = interp (x (ix2 b n)) (fun q => w (ix3 o n q)) := by
  have h0 : val_main_v66 (F := Ideal) (ix3 b n o) = 0 := by pointwise [val_main_v66, val_main_cst_23]
  rw [interp_eq]
  simp only [gain_apply, basis_apply, gathered_apply, h0]
  unfold interp
  rw [Fin.sum_univ_six, zero_add]

/-- One step of the product loop: the running array times the interpolants of feature `n`. -/
def times (A : FVec Ideal S1024x64x64 .f32) (n : Fin 64) (a : FVec Ideal S1024x64 .f32) : FVec Ideal S1024x64 .f32 :=
  mulf a (shapeCast _ (extractStridedSlice S1024x1x64 ![0, n.val, 0] A (fits_feature n)) shapeCasts_S1024x1x64_S1024x64)

/-- A step of the product loop read at an index. -/
theorem times_apply (A : FVec Ideal S1024x64x64 .f32) (n : Fin 64) (a : FVec Ideal S1024x64 .f32) (b : Fin 1024) (o : Fin 64) :
    times A n a (ix2 b o) = a (ix2 b o) * A (ix3 b n o) := by
  pointwise [times]

/-- The product loop's first `k` steps from ones. -/
def product (A : FVec Ideal S1024x64x64 .f32) : (k : Nat) → k ≤ 64 → FVec Ideal S1024x64 .f32
  | 0, _ => broadcastInDim S1024x64 ![] bcast_S_S1024x64 (constant S_ .f32 0x3F800000#32)
  | k + 1, h => times A ⟨k, h⟩ (product A k (Nat.le_of_succ_le h))

/-- The first `k` steps hold the product over the first `k` features. -/
theorem product_apply (A : FVec Ideal S1024x64x64 .f32) (b : Fin 1024) (o : Fin 64) (k : Nat) (h : k ≤ 64) :
    product A k h (ix2 b o) = ∏ n : Fin k, A (ix3 b ⟨n.val, by omega⟩ o) := by
  induction k with
  | zero => exact ones_apply b o
  | succ k ih =>
    show times A ⟨k, h⟩ (product A k _) (ix2 b o) = _
    rw [times_apply, ih (by omega), Fin.prod_univ_castSucc]
    rfl

/-- The reference's product array is the product loop's 64 steps. -/
theorem product_eq (x : FVec Ideal S1024x64 .f32) (w : FVec Ideal S64x64x48 .f32) :
    val_main_v662 (F := Ideal) x w = product (val_main_v468 (F := Ideal) x w) 64 le_rfl := rfl

/-- The reference's result at batch row `b` and output `o` is the layer's entry there. -/
theorem total_apply (x : FVec Ideal S1024x64 .f32) (w : FVec Ideal S64x64x48 .f32) (s p : FVec Ideal S64 .f32) (b : Fin 1024) (o : Fin 64) :
    val_main_v669 (F := Ideal) x w s p (ix2 b o)
      = entry (fun n => x (ix2 b n)) (fun n q => w (ix3 o n q)) (s (ix1 o)) (p (ix1 o)) := by
  have h1 : val_main_v469 (F := Ideal) x w (ix2 b o) = ∑ n, interp (x (ix2 b n)) (fun q => w (ix3 o n q)) := by
    pointwise [val_main_v469, val_main_cst_30, interp_apply]
  have h2 : val_main_v662 (F := Ideal) x w (ix2 b o) = ∏ n, interp (x (ix2 b n)) (fun q => w (ix3 o n q)) := by
    rw [product_eq, product_apply]
    exact Finset.prod_congr rfl fun n _ => interp_apply x w b n o
  pointwise [val_main_v669, val_main_v668, val_main_v667, val_main_v666, val_main_v665, val_main_v664, val_main_v663, h1, h2]
  rfl

end Cert.Lagrange

end
-- ==== Proof.Equation.lean ====
/- The equation of the two programs: the reference's run ends with the same layer of the arguments as the kernel's. -/
module

public import proofs.«01_k».proof.Proof.Array
public import proofs.«01_k».proof.Proof.RefTotal
public import proofs.«01_k».proof.Proof.Gen.ReferenceIdeal.Run

@[expose] public section

set_option maxRecDepth 16384

noncomputable section

namespace Cert.Lagrange

open Idealize.ShloMosaic Idealize.ShloMosaic.TcCoe Idealize.SL.Sem Idealize.ShloMosaic.StableHlo

/-- The reference's result, as an array of its four arguments, is the layer of them. -/
theorem total_eq (x : Cert.KernelIdeal.S1024x64.Idx → EReal) (w : Cert.KernelIdeal.S64x64x48.Idx → EReal)
    (s p : Cert.KernelIdeal.S64.Idx → EReal) :
    Cert.ReferenceIdeal.Read.val_main_v669 (F := Ideal) x w s p = layer x w s p := by
  funext i
  obtain ⟨b, o, rfl⟩ : ∃ (b : Fin 1024) (o : Fin 64), i = (ix2 b o : Cert.KernelIdeal.S1024x64.Idx) :=
    ⟨i 0, i 1, funext fun a => by fin_cases a <;> rfl⟩
  exact total_apply x w s p b o

/-- The reference's run: the result holds the layer of the arguments, and the arguments are as launched. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread Cert.ReferenceIdeal.nD Cert.ReferenceIdeal.τ).loc Cert.ReferenceIdeal.main_v669)
        = layer (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
        = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3)
        = m ((c.tc : Thread Cert.ReferenceIdeal.nD Cert.ReferenceIdeal.τ).loc Cert.ReferenceIdeal.main_arg3) :=
  (θ_run Cert.ReferenceIdeal.defs _ _).mono (fun _ h c => ⟨(h c).1.trans
      ((Cert.ReferenceIdeal.Read.val_main_v669_eq (launchContents m c)).trans (total_eq _ _ _ _)), (h c).2⟩)
    (Cert.ReferenceIdeal.Value.run (F := Ideal) m ρ)

end Cert.Lagrange

end
-- ==== Proof.lean ====
/- The five claims of the piecewise Lagrange layer, assembled: the three programs run and leave their arguments and
   semaphores as they were, the named constants are what their literals round, and the kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel terminates without a fault, leaves its arguments as they were, and every semaphore at zero. -/
theorem frame_kernel : Cert.quiescent_Kernel := fun m ρ _ => Cert.Kernel.Gen.frame m ρ

/-- So does the kernel with its rounded constants named. -/
theorem frame_ideal : Cert.quiescent_KernelIdeal := fun m ρ _ => Cert.KernelIdeal.Gen.frame m ρ

/-- So does the reference. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Each named constant is the rational that its literal rounds: the six reciprocals of the denominators, and the four
    inner nodes. -/
theorem preserves : Cert.preserves_Kernel_KernelIdeal :=
  ⟨IdealRules.named_const.statement Cert.KernelIdeal.κ "invd0" .f32 0xBF505555#32 ((-625 / 768 : ℝ) : EReal) rfl,
    IdealRules.named_const.statement Cert.KernelIdeal.κ "invd1" .f32 0x40823555#32 ((3125 / 768 : ℝ) : EReal) rfl,
    IdealRules.named_const.statement Cert.KernelIdeal.κ "invd2" .f32 0xC1023555#32 ((-3125 / 384 : ℝ) : EReal) rfl,
    IdealRules.named_const.statement Cert.KernelIdeal.κ "invd3" .f32 0x41023555#32 ((3125 / 384 : ℝ) : EReal) rfl,
    IdealRules.named_const.statement Cert.KernelIdeal.κ "invd4" .f32 0xC0823555#32 ((-3125 / 768 : ℝ) : EReal) rfl,
    IdealRules.named_const.statement Cert.KernelIdeal.κ "invd5" .f32 0x3F505555#32 ((625 / 768 : ℝ) : EReal) rfl,
    IdealRules.named_const.statement Cert.KernelIdeal.κ "node1" .f32 0xBF19999A#32 ((-3 / 5 : ℝ) : EReal) rfl,
    IdealRules.named_const.statement Cert.KernelIdeal.κ "node2" .f32 0xBE4CCCCD#32 ((-1 / 5 : ℝ) : EReal) rfl,
    IdealRules.named_const.statement Cert.KernelIdeal.κ "node3" .f32 0x3E4CCCCD#32 ((1 / 5 : ℝ) : EReal) rfl,
    IdealRules.named_const.statement Cert.KernelIdeal.κ "node4" .f32 0x3F19999A#32 ((3 / 5 : ℝ) : EReal) rfl⟩

/-- From equal arguments the kernel and the reference end with the same array, the layer of the arguments. -/
theorem algebraic : Cert.algebraic_KernelIdeal_ReferenceIdeal := by
  intro m ρ m' ρ' _ hagree
  refine ⟨_, Cert.Lagrange.run_kernel m ρ, ?_⟩
  refine (θ_run Cert.ReferenceIdeal.defs _ _).mono (fun _ h c => ⟨(h c).1.trans ?_, (h c).2⟩)
    (Cert.Lagrange.run_reference m' ρ')
  obtain ⟨e0, e1, e2, e3⟩ := hagree c
  rw [e0, e1, e2, e3]

/-- All five claims. -/
theorem claim : Cert.Claim := ⟨Cert.Kernel.Gen.facts, Cert.KernelIdeal.Gen.facts, Cert.ReferenceIdeal.Gen.facts,
  frame_kernel, frame_ideal, frame_reference, preserves, algebraic⟩

end Cert.Proof

end
